-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity [hPre_logits_below_infinity : Cert.Pre_logits_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity [hPre_logits_below_infinity : Cert.Pre_logits_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_infinity [hKernelIdeal : Cert.KernelIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_infinity [hReferenceIdeal : Cert.ReferenceIdeal.Facts] [hPre_logits_below_infinity : Cert.Pre_logits_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "width" .f32 0x3F800000#32 ((85070591730234615865843651857942052863 / 85070591730234615865843651857942052864 : ℝ) : EReal)

def algebraic_KernelIdeal_ReferenceIdeal_pre_logits_below_infinity [hKernelIdeal : Cert.KernelIdeal.Facts] [hReferenceIdeal : Cert.ReferenceIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_logits_below_infinity : Cert.Pre_logits_below_infinity.Facts),
    quiescent_Kernel (hKernel := hKernel)
    ∧ quiescent_KernelIdeal (hKernelIdeal := hKernelIdeal)
    ∧ quiescent_KernelIdeal_pre_logits_below_infinity (hKernelIdeal := hKernelIdeal) (hPre_logits_below_infinity := hPre_logits_below_infinity)
    ∧ quiescent_ReferenceIdeal (hReferenceIdeal := hReferenceIdeal)
    ∧ quiescent_ReferenceIdeal_pre_logits_below_infinity (hReferenceIdeal := hReferenceIdeal) (hPre_logits_below_infinity := hPre_logits_below_infinity)
    ∧ preserves_Kernel_KernelIdeal
    ∧ algebraic_KernelIdeal_ReferenceIdeal_pre_logits_below_infinity (hKernelIdeal := hKernelIdeal) (hReferenceIdeal := hReferenceIdeal) (hPre_logits_below_infinity := hPre_logits_below_infinity)
-- ==== Pre_logits_below_infinity.lean ====
abbrev S32x8x1024 : Shape := ⟨3, ![32, 8, 1024]⟩
abbrev S32x8x100000 : Shape := ⟨3, ![32, 8, 100000]⟩
abbrev S1024x4 : Shape := ⟨2, ![1024, 4]⟩
abbrev S4 : Shape := ⟨1, ![4]⟩
abbrev S32x1x100000 : Shape := ⟨3, ![32, 1, 100000]⟩
abbrev S32x100000 : Shape := ⟨2, ![32, 100000]⟩
abbrev S_ : Shape := ⟨0, ![]⟩

class Facts : Prop where
  slices_S32x8x100000_S32x1x100000_0_7_0 : S32x8x100000.Slices ![0, 7, 0] S32x1x100000
  shapeCasts_S32x1x100000_S32x100000 : S32x1x100000.ShapeCasts S32x100000
  bcast_S_S32x100000 : S_.BroadcastsInDim S32x100000 (![] : Fin 0 → Fin S32x100000.rank)
  reducesTo_S32x100000_S_d0_1 : S32x100000.ReducesTo [0, 1] S_
  h_S_ : 0 < S_.numel

variable [Facts]

def fn {F : FTy → Type} [FloatOps F] (main_arg0 : FVec F S32x8x1024 .f32) (main_arg1 : FVec F S32x8x100000 .f32) (main_arg2 : FVec F S1024x4 .f32) (main_arg3 : FVec F S4 .f32) : IVec S_ 1 :=
  let main_v0 : FVec F S32x1x100000 .f32 := (extractStridedSlice S32x1x100000 ![0, 7, 0] · slices_S32x8x100000_S32x1x100000_0_7_0) main_arg1
  let main_v1 : FVec F S32x100000 .f32 := shapeCast S32x100000 main_v0 shapeCasts_S32x1x100000_S32x100000
  let main_cst : FVec F S_ .f32 := constant S_ .f32 0x7F800000#32
  let main_v2 : FVec F S32x100000 .f32 := broadcastInDim S32x100000 ![] bcast_S_S32x100000 main_cst
  let main_v3 : IVec S32x100000 1 := cmpf .olt main_v1 main_v2
  let main_c : IVec S_ 1 := constantI S_ 1 1#1
  let main_v4 : IVec S_ 1 := (fun x v => Host.reduce IntOp.andi x v reducesTo_S32x100000_S_d0_1 h_S_) main_v3 main_c
  main_v4
-- ==== Kernel.lean ====
abbrev S32x8x1024 : Shape := ⟨3, ![32, 8, 1024]⟩
abbrev S32x8x100000 : Shape := ⟨3, ![32, 8, 100000]⟩
abbrev S1024x4 : Shape := ⟨2, ![1024, 4]⟩
abbrev S4 : Shape := ⟨1, ![4]⟩
abbrev S32x2 : Shape := ⟨2, ![32, 2]⟩
abbrev S32x1x100000 : Shape := ⟨3, ![32, 1, 100000]⟩
abbrev S32x100000 : Shape := ⟨2, ![32, 100000]⟩
abbrev S2x32x16 : Shape := ⟨3, ![2, 32, 16]⟩
abbrev S32x3584 : Shape := ⟨2, ![32, 3584]⟩
abbrev S1x32x16 : Shape := ⟨3, ![1, 32, 16]⟩
abbrev S32x16 : Shape := ⟨2, ![32, 16]⟩
abbrev S1x1 : Shape := ⟨2, ![1, 1]⟩
abbrev S32 : Shape := ⟨1, ![32]⟩
abbrev S32x1 : Shape := ⟨2, ![32, 1]⟩
abbrev S32x2x16 : Shape := ⟨3, ![32, 2, 16]⟩
abbrev S32x32 : Shape := ⟨2, ![32, 32]⟩
abbrev S32x4x8 : Shape := ⟨3, ![32, 4, 8]⟩

abbrev nBuf : Space → Nat
  | .hbm => 15
  | .vmem => 9
  | .smem => 1
  | _ => 0

abbrev bufTy : (tb : Table) → Fin (tcTables nBuf tb) → BufTy
  | .hbm, ⟨0, _⟩ => ⟨S32x8x1024, .f32⟩
  | .hbm, ⟨1, _⟩ => ⟨S32x8x100000, .f32⟩
  | .hbm, ⟨2, _⟩ => ⟨S1024x4, .f32⟩
  | .hbm, ⟨3, _⟩ => ⟨S4, .f32⟩
  | .hbm, ⟨4, _⟩ => ⟨S32x2, .i32⟩
  | .hbm, ⟨5, _⟩ => ⟨S32x1x100000, .f32⟩
  | .hbm, ⟨6, _⟩ => ⟨S32x100000, .f32⟩
  | .hbm, ⟨7, _⟩ => ⟨S2x32x16, .i32⟩
  | .hbm, ⟨8, _⟩ => ⟨S2x32x16, .f32⟩
  | .hbm, ⟨9, _⟩ => ⟨S32x2x16, .i32⟩
  | .hbm, ⟨10, _⟩ => ⟨S32x32, .i32⟩
  | .hbm, ⟨11, _⟩ => ⟨S32x2x16, .f32⟩
  | .hbm, ⟨12, _⟩ => ⟨S32x32, .f32⟩
  | .hbm, ⟨13, _⟩ => ⟨S32x4x8, .i32⟩
  | .hbm, ⟨14, _⟩ => ⟨S32x4x8, .f32⟩
  | .local _ .vmem, ⟨0, _⟩ => ⟨S32x3584, .f32⟩
  | .local _ .vmem, ⟨1, _⟩ => ⟨S32x3584, .f32⟩
  | .local _ .vmem, ⟨2, _⟩ => ⟨S1x32x16, .i32⟩
  | .local _ .vmem, ⟨3, _⟩ => ⟨S1x32x16, .i32⟩
  | .local _ .vmem, ⟨4, _⟩ => ⟨S1x32x16, .f32⟩
  | .local _ .vmem, ⟨5, _⟩ => ⟨S1x32x16, .f32⟩
  | .local _ .vmem, ⟨6, _⟩ => ⟨S32x3584, .f32⟩
  | .local _ .vmem, ⟨7, _⟩ => ⟨S32x16, .f32⟩
  | .local _ .vmem, ⟨8, _⟩ => ⟨S32x16, .i32⟩
  | .local _ .smem, ⟨0, _⟩ => ⟨S32x2, .i32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 28], ![false, false]⟩

@[reducible] def k0_t1_loop : Scf.Loop 32 :=
  let c0_i32_9 : BitVec 32 := 0#32
  let c2_i32 : BitVec 32 := 2#32
  let v26 : BitVec 32 := Scalar.addi c0_i32_9 c2_i32
  let c1_i32 : BitVec 32 := 1#32
  ⟨c0_i32_9, v26, c1_i32⟩
def k0_off1 (i : grid0.Coords) (k0_t1 : Fin k0_t1_loop.trips) (c0_i32_22 : BitVec 32) : Fin 2 → Nat :=
  let arg0 : BitVec 32 := BitVec.ofNat 32 (i 0).val
  let c16_i32 : BitVec 32 := 16#32
  let v45 : BitVec 32 := Scalar.muli arg0 c16_i32
  let c8_i32 : BitVec 32 := 8#32
  let c0_i32_9 : BitVec 32 := 0#32
  let c1_i32 : BitVec 32 := 1#32
  let arg9 : BitVec 32 := Scf.iv c0_i32_9 c1_i32 k0_t1
  let v43 : BitVec 32 := Scalar.muli c8_i32 arg9
  let v44 : BitVec 32 := Scalar.addi v43 c0_i32_22
  let v46 : BitVec 32 := Scalar.addi v45 v44
  let v47 : Index := Scalar.indexCast v46
  let c0_23 : Index := 0#32
  ![v47.toNat, 0]
def k0_off2 (i : grid0.Coords) (k0_t1 : Fin k0_t1_loop.trips) (c0_i32_22 : BitVec 32) : Fin 2 → Nat :=
  let arg0 : BitVec 32 := BitVec.ofNat 32 (i 0).val
  let c16_i32_24 : BitVec 32 := 16#32
  let v49 : BitVec 32 := Scalar.muli arg0 c16_i32_24
  let c8_i32 : BitVec 32 := 8#32
  let c0_i32_9 : BitVec 32 := 0#32
  let c1_i32 : BitVec 32 := 1#32
  let arg9 : BitVec 32 := Scf.iv c0_i32_9 c1_i32 k0_t1
  let v43 : BitVec 32 := Scalar.muli c8_i32 arg9
  let v44 : BitVec 32 := Scalar.addi v43 c0_i32_22
  let v50 : BitVec 32 := Scalar.addi v49 v44
  let v51 : Index := Scalar.indexCast v50
  let c1 : Index := 1#32
  ![v51.toNat, 1]
def k0_cond2 (i : grid0.Coords) : BitVec 1 :=
  let arg1 : BitVec 32 := BitVec.ofNat 32 (i 1).val
  let c27_i32 : BitVec 32 := 27#32
  let v40 : BitVec 1 := Scalar.cmpi .eq arg1 c27_i32
  let v41 : BitVec 32 := Scalar.extui v40
  let c0_i32_21 : BitVec 32 := 0#32
  let v42 : BitVec 1 := Scalar.cmpi .ne v41 c0_i32_21
  v42

@[reducible] def k0_t2_loop : Scf.Loop 32 :=
  let c0_i32_29 : BitVec 32 := 0#32
  let c16_i32 : BitVec 32 := 16#32
  let v52 : BitVec 32 := Scalar.addi c0_i32_29 c16_i32
  let c1_i32_30 : BitVec 32 := 1#32
  ⟨c0_i32_29, v52, c1_i32_30⟩
def k0_off3 (i : grid0.Coords) (k0_t2 : Fin k0_t2_loop.trips) : Fin 2 → Nat :=
  let arg0 : BitVec 32 := BitVec.ofNat 32 (i 0).val
  let c16_i32_40 : BitVec 32 := 16#32
  let v65 : BitVec 32 := Scalar.muli arg0 c16_i32_40
  let c0_i32_29 : BitVec 32 := 0#32
  let c1_i32_30 : BitVec 32 := 1#32
  let arg9 : BitVec 32 := Scf.iv c0_i32_29 c1_i32_30 k0_t2
  let v66 : BitVec 32 := Scalar.addi v65 arg9
  let v67 : Index := Scalar.indexCast v66
  let c0_41 : Index := 0#32
  ![v67.toNat, 0]
def k0_off4 (i : grid0.Coords) (k0_t2 : Fin k0_t2_loop.trips) : Fin 2 → Nat :=
  let arg0 : BitVec 32 := BitVec.ofNat 32 (i 0).val
  let c16_i32_42 : BitVec 32 := 16#32
  let v69 : BitVec 32 := Scalar.muli arg0 c16_i32_42
  let c0_i32_29 : BitVec 32 := 0#32
  let c1_i32_30 : BitVec 32 := 1#32
  let arg9 : BitVec 32 := Scf.iv c0_i32_29 c1_i32_30 k0_t2
  let v70 : BitVec 32 := Scalar.addi v69 arg9
  let v71 : Index := Scalar.indexCast v70
  let c1 : Index := 1#32
  ![v71.toNat, 1]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "width" => some ((85070591730234615865843651857942052863 / 85070591730234615865843651857942052864 : ℝ) : EReal)
  | _ => none
-- ==== ReferenceIdeal.lean ====
abbrev S32x8x1024 : Shape := ⟨3, ![32, 8, 1024]⟩
abbrev S32x8x100000 : Shape := ⟨3, ![32, 8, 100000]⟩
abbrev S1024x4 : Shape := ⟨2, ![1024, 4]⟩
abbrev S4 : Shape := ⟨1, ![4]⟩
abbrev S32x1x1024 : Shape := ⟨3, ![32, 1, 1024]⟩
abbrev S32x1024 : Shape := ⟨2, ![32, 1024]⟩
abbrev S32x1x100000 : Shape := ⟨3, ![32, 1, 100000]⟩
abbrev S32x100000 : Shape := ⟨2, ![32, 100000]⟩
abbrev S32x4 : Shape := ⟨2, ![32, 4]⟩
abbrev S1x4 : Shape := ⟨2, ![1, 4]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S32x32 : Shape := ⟨2, ![32, 32]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S32x1x1 : Shape := ⟨3, ![32, 1, 1]⟩
abbrev S1x1x1 : Shape := ⟨3, ![1, 1, 1]⟩
abbrev S1x32 : Shape := ⟨2, ![1, 32]⟩
abbrev S4x8x32 : Shape := ⟨3, ![4, 8, 32]⟩
abbrev S32x4x8 : Shape := ⟨3, ![32, 4, 8]⟩

abbrev nBuf : Space → Nat
  | .hbm => 617
  | .vmem => 0
  | .smem => 0
  | _ => 0

abbrev hbmTy0_0 (i : Nat) : BufTy := match i % 128 with
  | 0 => ⟨S32x8x1024, .f32⟩
  | 1 => ⟨S32x8x100000, .f32⟩
  | 2 => ⟨S1024x4, .f32⟩
  | 3 => ⟨S4, .f32⟩
  | 4 => ⟨S32x1x1024, .f32⟩
  | 5 => ⟨S32x1024, .f32⟩
  | 6 => ⟨S32x1x100000, .f32⟩
  | 7 => ⟨S32x100000, .f32⟩
  | 8 => ⟨S32x4, .f32⟩
  | 9 => ⟨S1x4, .f32⟩
  | 10 => ⟨S32x4, .f32⟩
  | 11 => ⟨S32x4, .f32⟩
  | 12 => ⟨S_, .f32⟩
  | 13 => ⟨S32, .f32⟩
  | 14 => ⟨S_, .f32⟩
  | 15 => ⟨S32, .f32⟩
  | 16 => ⟨S32, .f32⟩
  | 17 => ⟨S32x1, .f32⟩
  | 18 => ⟨S32x4, .f32⟩
  | 19 => ⟨S32x4, .f32⟩
  | 20 => ⟨S32x4, .f32⟩
  | 21 => ⟨S_, .f32⟩
  | 22 => ⟨S32, .f32⟩
  | 23 => ⟨S32x1, .f32⟩
  | 24 => ⟨S32x4, .f32⟩
  | 25 => ⟨S32x4, .f32⟩
  | 26 => ⟨S_, .f32⟩
  | 27 => ⟨S32x100000, .f32⟩
  | 28 => ⟨S32x100000, .f32⟩
  | 29 => ⟨S_, .f32⟩
  | 30 => ⟨S32, .f32⟩
  | 31 => ⟨S_, .f32⟩
  | 32 => ⟨S32, .f32⟩
  | 33 => ⟨S32, .f32⟩
  | 34 => ⟨S32x1, .f32⟩
  | 35 => ⟨S32x100000, .f32⟩
  | 36 => ⟨S32x100000, .f32⟩
  | 37 => ⟨S32x100000, .f32⟩
  | 38 => ⟨S_, .f32⟩
  | 39 => ⟨S32, .f32⟩
  | 40 => ⟨S32x1, .f32⟩
  | 41 => ⟨S32x100000, .f32⟩
  | 42 => ⟨S32x100000, .f32⟩
  | 43 => ⟨S_, .i32⟩
  | 44 => ⟨S_, .i32⟩
  | 45 => ⟨S_, .i32⟩
  | 46 => ⟨S_, .i32⟩
  | 47 => ⟨S1, .i32⟩
  | 48 => ⟨S_, .i32⟩
  | 49 => ⟨S_, .i32⟩
  | 50 => ⟨S_, .i32⟩
  | 51 => ⟨S1, .i32⟩
  | 52 => ⟨S2, .i32⟩
  | 53 => ⟨S_, .i32⟩
  | 54 => ⟨S32x32, .i32⟩
  | 55 => ⟨S_, .f32⟩
  | 56 => ⟨S32x32, .f32⟩
  | 57 => ⟨S_, .i32⟩
  | 58 => ⟨S32x100000, .f32⟩
  | 59 => ⟨S32x100000, .f32⟩
  | 60 => ⟨S_, .i32⟩
  | 61 => ⟨S2, .i32⟩
  | 62 => ⟨S32x32, .i32⟩
  | 63 => ⟨S32x32, .f32⟩
  | 64 => ⟨S_, .i32⟩
  | 65 => ⟨S_, .i1⟩
  | 66 => ⟨S1, .i32⟩
  | 67 => ⟨S_, .i32⟩
  | 68 => ⟨S1, .i32⟩
  | 69 => ⟨S_, .i32⟩
  | 70 => ⟨S2, .i64⟩
  | 71 => ⟨S_, .i64⟩
  | 72 => ⟨S2, .i64⟩
  | 73 => ⟨S2, .i64⟩
  | 74 => ⟨S_, .i64⟩
  | 75 => ⟨S2, .i64⟩
  | 76 => ⟨S2, .i64⟩
  | 77 => ⟨S2, .i32⟩
  | 78 => ⟨S2, .i32⟩
  | 79 => ⟨S_, .i32⟩
  | 80 => ⟨S_, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S32x8x1024, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S32x8x1024, .f32⟩

abbrev hbmTy0_2 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2x1, .i32⟩
  | 46 => ⟨S2x1, .i32⟩
  | 47 => ⟨S2x2, .i32⟩
  | 48 => ⟨S1x2, .i32⟩
  | 49 => ⟨S2, .i32⟩
  | 50 => ⟨S1x2, .i32⟩
  | 51 => ⟨S2, .i32⟩
  | 52 => ⟨S_, .f32⟩
  | 53 => ⟨S_, .f32⟩
  | 54 => ⟨S_, .f32⟩
  | 55 => ⟨S1x1, .f32⟩
  | 56 => ⟨S1x1, .f32⟩
  | 57 => ⟨S1, .i32⟩
  | 58 => ⟨S_, .i32⟩
  | 59 => ⟨S1, .i32⟩
  | 60 => ⟨S_, .i32⟩
  | 61 => ⟨S32x100000, .i64⟩
  | 62 => ⟨S32x100000, .i64⟩
  | 63 => ⟨S_, .i64⟩
  | 64 => ⟨S32x100000, .i64⟩
  | 65 => ⟨S32x100000, .i64⟩
  | 66 => ⟨S_, .i64⟩
  | 67 => ⟨S32x100000, .i64⟩
  | 68 => ⟨S32x100000, .i64⟩
  | 69 => ⟨S32x100000, .i64⟩
  | 70 => ⟨S_, .i64⟩
  | 71 => ⟨S32x100000, .i64⟩
  | 72 => ⟨S32x100000, .i64⟩
  | 73 => ⟨S32x100000, .i32⟩
  | 74 => ⟨S32x100000, .i32⟩
  | 75 => ⟨S_, .i32⟩
  | 76 => ⟨S_, .i32⟩
  | 77 => ⟨S_, .i32⟩
  | 78 => ⟨S32x100000, .i32⟩
  | 79 => ⟨S32x100000, .i32⟩
  | 80 => ⟨S32x100000, .i32⟩
  | 81 => ⟨S32x100000, .i32⟩
  | 82 => ⟨S32x100000, .i32⟩
  | 83 => ⟨S_, .i32⟩
  | 84 => ⟨S32x100000, .i32⟩
  | 85 => ⟨S32x100000, .i32⟩
  | 86 => ⟨S_, .i32⟩
  | 87 => ⟨S32x100000, .i32⟩
  | 88 => ⟨S32x100000, .i32⟩
  | 89 => ⟨S32x100000, .i32⟩
  | 90 => ⟨S32x100000, .i32⟩
  | 91 => ⟨S32x100000, .i32⟩
  | 92 => ⟨S_, .i32⟩
  | 93 => ⟨S32x100000, .i32⟩
  | 94 => ⟨S32x100000, .i32⟩
  | 95 => ⟨S_, .i32⟩
  | 96 => ⟨S32x100000, .i32⟩
  | 97 => ⟨S32x100000, .i32⟩
  | 98 => ⟨S32x100000, .i32⟩
  | 99 => ⟨S32x100000, .i32⟩
  | 100 => ⟨S32x100000, .i32⟩
  | 101 => ⟨S_, .i32⟩
  | 102 => ⟨S32x100000, .i32⟩
  | 103 => ⟨S32x100000, .i32⟩
  | 104 => ⟨S_, .i32⟩
  | 105 => ⟨S32x100000, .i32⟩
  | 106 => ⟨S32x100000, .i32⟩
  | 107 => ⟨S32x100000, .i32⟩
  | 108 => ⟨S32x100000, .i32⟩
  | 109 => ⟨S32x100000, .i32⟩
  | 110 => ⟨S_, .i32⟩
  | 111 => ⟨S32x100000, .i32⟩
  | 112 => ⟨S32x100000, .i32⟩
  | 113 => ⟨S_, .i32⟩
  | 114 => ⟨S32x100000, .i32⟩
  | 115 => ⟨S32x100000, .i32⟩
  | 116 => ⟨S32x100000, .i32⟩
  | 117 => ⟨S32x100000, .i32⟩
  | 118 => ⟨S32x100000, .i32⟩
  | 119 => ⟨S32x100000, .i32⟩
  | 120 => ⟨S32x100000, .i32⟩
  | 121 => ⟨S32x100000, .i32⟩
  | 122 => ⟨S_, .i32⟩
  | 123 => ⟨S32x100000, .i32⟩
  | 124 => ⟨S32x100000, .i32⟩
  | 125 => ⟨S32x100000, .i32⟩
  | 126 => ⟨S_, .i32⟩
  | 127 => ⟨S32x100000, .i32⟩
  | _ => ⟨S32x8x1024, .f32⟩

abbrev hbmTy0_3 (i : Nat) : BufTy := match i % 128 with
  | 0 => ⟨S32x100000, .i32⟩
  | 1 => ⟨S_, .i32⟩
  | 2 => ⟨S32x100000, .i32⟩
  | 3 => ⟨S32x100000, .i32⟩
  | 4 => ⟨S32x100000, .i32⟩
  | 5 => ⟨S32x100000, .i32⟩
  | 6 => ⟨S32x100000, .i32⟩
  | 7 => ⟨S_, .i32⟩
  | 8 => ⟨S32x100000, .i32⟩
  | 9 => ⟨S32x100000, .i32⟩
  | 10 => ⟨S_, .i32⟩
  | 11 => ⟨S32x100000, .i32⟩
  | 12 => ⟨S32x100000, .i32⟩
  | 13 => ⟨S32x100000, .i32⟩
  | 14 => ⟨S32x100000, .i32⟩
  | 15 => ⟨S32x100000, .i32⟩
  | 16 => ⟨S_, .i32⟩
  | 17 => ⟨S32x100000, .i32⟩
  | 18 => ⟨S32x100000, .i32⟩
  | 19 => ⟨S_, .i32⟩
  | 20 => ⟨S32x100000, .i32⟩
  | 21 => ⟨S32x100000, .i32⟩
  | 22 => ⟨S32x100000, .i32⟩
  | 23 => ⟨S32x100000, .i32⟩
  | 24 => ⟨S32x100000, .i32⟩
  | 25 => ⟨S_, .i32⟩
  | 26 => ⟨S32x100000, .i32⟩
  | 27 => ⟨S32x100000, .i32⟩
  | 28 => ⟨S_, .i32⟩
  | 29 => ⟨S32x100000, .i32⟩
  | 30 => ⟨S32x100000, .i32⟩
  | 31 => ⟨S32x100000, .i32⟩
  | 32 => ⟨S32x100000, .i32⟩
  | 33 => ⟨S32x100000, .i32⟩
  | 34 => ⟨S32x100000, .i32⟩
  | 35 => ⟨S32x100000, .i32⟩
  | 36 => ⟨S32x100000, .i32⟩
  | 37 => ⟨S_, .i32⟩
  | 38 => ⟨S32x100000, .i32⟩
  | 39 => ⟨S32x100000, .i32⟩
  | 40 => ⟨S32x100000, .i32⟩
  | 41 => ⟨S_, .i32⟩
  | 42 => ⟨S32x100000, .i32⟩
  | 43 => ⟨S32x100000, .i32⟩
  | 44 => ⟨S_, .i32⟩
  | 45 => ⟨S32x100000, .i32⟩
  | 46 => ⟨S32x100000, .i32⟩
  | 47 => ⟨S32x100000, .i32⟩
  | 48 => ⟨S32x100000, .i32⟩
  | 49 => ⟨S32x100000, .i32⟩
  | 50 => ⟨S_, .i32⟩
  | 51 => ⟨S32x100000, .i32⟩
  | 52 => ⟨S32x100000, .i32⟩
  | 53 => ⟨S_, .i32⟩
  | 54 => ⟨S32x100000, .i32⟩
  | 55 => ⟨S32x100000, .i32⟩
  | 56 => ⟨S32x100000, .i32⟩
  | 57 => ⟨S32x100000, .i32⟩
  | 58 => ⟨S32x100000, .i32⟩
  | 59 => ⟨S_, .i32⟩
  | 60 => ⟨S32x100000, .i32⟩
  | 61 => ⟨S32x100000, .i32⟩
  | 62 => ⟨S_, .i32⟩
  | 63 => ⟨S32x100000, .i32⟩
  | 64 => ⟨S32x100000, .i32⟩
  | 65 => ⟨S32x100000, .i32⟩
  | 66 => ⟨S32x100000, .i32⟩
  | 67 => ⟨S32x100000, .i32⟩
  | 68 => ⟨S_, .i32⟩
  | 69 => ⟨S32x100000, .i32⟩
  | 70 => ⟨S32x100000, .i32⟩
  | 71 => ⟨S_, .i32⟩
  | 72 => ⟨S32x100000, .i32⟩
  | 73 => ⟨S32x100000, .i32⟩
  | 74 => ⟨S32x100000, .i32⟩
  | 75 => ⟨S32x100000, .i32⟩
  | 76 => ⟨S32x100000, .i32⟩
  | 77 => ⟨S32x100000, .i32⟩
  | 78 => ⟨S32x100000, .i32⟩
  | 79 => ⟨S32x100000, .i32⟩
  | 80 => ⟨S_, .i32⟩
  | 81 => ⟨S32x100000, .i32⟩
  | 82 => ⟨S32x100000, .i32⟩
  | 83 => ⟨S32x100000, .i32⟩
  | 84 => ⟨S_, .i32⟩
  | 85 => ⟨S32x100000, .i32⟩
  | 86 => ⟨S32x100000, .i32⟩
  | 87 => ⟨S_, .i32⟩
  | 88 => ⟨S32x100000, .i32⟩
  | 89 => ⟨S32x100000, .i32⟩
  | 90 => ⟨S32x100000, .i32⟩
  | 91 => ⟨S32x100000, .i32⟩
  | 92 => ⟨S32x100000, .i32⟩
  | 93 => ⟨S_, .i32⟩
  | 94 => ⟨S32x100000, .i32⟩
  | 95 => ⟨S32x100000, .i32⟩
  | 96 => ⟨S_, .i32⟩
  | 97 => ⟨S32x100000, .i32⟩
  | 98 => ⟨S32x100000, .i32⟩
  | 99 => ⟨S32x100000, .i32⟩
  | 100 => ⟨S32x100000, .i32⟩
  | 101 => ⟨S32x100000, .i32⟩
  | 102 => ⟨S_, .i32⟩
  | 103 => ⟨S32x100000, .i32⟩
  | 104 => ⟨S32x100000, .i32⟩
  | 105 => ⟨S_, .i32⟩
  | 106 => ⟨S32x100000, .i32⟩
  | 107 => ⟨S32x100000, .i32⟩
  | 108 => ⟨S32x100000, .i32⟩
  | 109 => ⟨S32x100000, .i32⟩
  | 110 => ⟨S32x100000, .i32⟩
  | 111 => ⟨S_, .i32⟩
  | 112 => ⟨S32x100000, .i32⟩
  | 113 => ⟨S32x100000, .i32⟩
  | 114 => ⟨S_, .i32⟩
  | 115 => ⟨S32x100000, .i32⟩
  | 116 => ⟨S32x100000, .i32⟩
  | 117 => ⟨S32x100000, .i32⟩
  | 118 => ⟨S32x100000, .i32⟩
  | 119 => ⟨S32x100000, .i32⟩
  | 120 => ⟨S32x100000, .i32⟩
  | 121 => ⟨S32x100000, .i32⟩
  | 122 => ⟨S32x100000, .i32⟩
  | 123 => ⟨S_, .i32⟩
  | 124 => ⟨S32x100000, .i32⟩
  | 125 => ⟨S32x100000, .i32⟩
  | 126 => ⟨S32x100000, .i32⟩
  | 127 => ⟨S_, .i32⟩
  | _ => ⟨S32x8x1024, .f32⟩

abbrev hbmTy0_4 (i : Nat) : BufTy := match i % 128 with
  | 0 => ⟨S32x100000, .i32⟩
  | 1 => ⟨S32x100000, .i32⟩
  | 2 => ⟨S_, .i32⟩
  | 3 => ⟨S32x100000, .i32⟩
  | 4 => ⟨S32x100000, .i32⟩
  | 5 => ⟨S32x100000, .i32⟩
  | 6 => ⟨S32x100000, .i32⟩
  | 7 => ⟨S32x100000, .i32⟩
  | 8 => ⟨S_, .i32⟩
  | 9 => ⟨S32x100000, .i32⟩
  | 10 => ⟨S32x100000, .i32⟩
  | 11 => ⟨S_, .i32⟩
  | 12 => ⟨S32x100000, .i32⟩
  | 13 => ⟨S32x100000, .i32⟩
  | 14 => ⟨S32x100000, .i32⟩
  | 15 => ⟨S32x100000, .i32⟩
  | 16 => ⟨S32x100000, .i32⟩
  | 17 => ⟨S_, .i32⟩
  | 18 => ⟨S32x100000, .i32⟩
  | 19 => ⟨S32x100000, .i32⟩
  | 20 => ⟨S_, .i32⟩
  | 21 => ⟨S32x100000, .i32⟩
  | 22 => ⟨S32x100000, .i32⟩
  | 23 => ⟨S32x100000, .i32⟩
  | 24 => ⟨S32x100000, .i32⟩
  | 25 => ⟨S32x100000, .i32⟩
  | 26 => ⟨S_, .i32⟩
  | 27 => ⟨S32x100000, .i32⟩
  | 28 => ⟨S32x100000, .i32⟩
  | 29 => ⟨S_, .i32⟩
  | 30 => ⟨S32x100000, .i32⟩
  | 31 => ⟨S32x100000, .i32⟩
  | 32 => ⟨S32x100000, .i32⟩
  | 33 => ⟨S32x100000, .i32⟩
  | 34 => ⟨S32x100000, .i32⟩
  | 35 => ⟨S32x100000, .i32⟩
  | 36 => ⟨S32x100000, .i32⟩
  | 37 => ⟨S32x100000, .i32⟩
  | 38 => ⟨S_, .i32⟩
  | 39 => ⟨S32x100000, .i32⟩
  | 40 => ⟨S32x100000, .i32⟩
  | 41 => ⟨S32x100000, .i32⟩
  | 42 => ⟨S_, .i32⟩
  | 43 => ⟨S32x100000, .i32⟩
  | 44 => ⟨S32x100000, .i32⟩
  | 45 => ⟨S_, .i32⟩
  | 46 => ⟨S32x100000, .i32⟩
  | 47 => ⟨S32x100000, .i32⟩
  | 48 => ⟨S32x100000, .f32⟩
  | 49 => ⟨S_, .f32⟩
  | 50 => ⟨S32x100000, .f32⟩
  | 51 => ⟨S32x100000, .f32⟩
  | 52 => ⟨S1x1, .f32⟩
  | 53 => ⟨S32x100000, .f32⟩
  | 54 => ⟨S32x100000, .f32⟩
  | 55 => ⟨S32x100000, .f32⟩
  | 56 => ⟨S32x100000, .f32⟩
  | 57 => ⟨S32x100000, .f32⟩
  | 58 => ⟨S32x100000, .f32⟩
  | 59 => ⟨S32x100000, .f32⟩
  | 60 => ⟨S32x100000, .f32⟩
  | 61 => ⟨S32x100000, .f32⟩
  | 62 => ⟨S32x100000, .f32⟩
  | 63 => ⟨S32x100000, .f32⟩
  | 64 => ⟨S32x100000, .i32⟩
  | 65 => ⟨S_, .f32⟩
  | 66 => ⟨S_, .i32⟩
  | 67 => ⟨S32, .f32⟩
  | 68 => ⟨S32, .i32⟩
  | 69 => ⟨S32x1, .i32⟩
  | 70 => ⟨S_, .i32⟩
  | 71 => ⟨S32x1, .i32⟩
  | 72 => ⟨S32x1, .i1⟩
  | 73 => ⟨S_, .i32⟩
  | 74 => ⟨S32x1, .i32⟩
  | 75 => ⟨S32x1, .i32⟩
  | 76 => ⟨S32x1, .i32⟩
  | 77 => ⟨S32x1x1, .i32⟩
  | 78 => ⟨S1, .i32⟩
  | 79 => ⟨S_, .i32⟩
  | 80 => ⟨S32x1x1, .i32⟩
  | 81 => ⟨S32x1x1, .i1⟩
  | 82 => ⟨S1x1x1, .i32⟩
  | 83 => ⟨S32x1x1, .i32⟩
  | 84 => ⟨S32x1x1, .i1⟩
  | 85 => ⟨S32x1x1, .i1⟩
  | 86 => ⟨S_, .i1⟩
  | 87 => ⟨S32x1, .i1⟩
  | 88 => ⟨S32x1, .f32⟩
  | 89 => ⟨S_, .f32⟩
  | 90 => ⟨S32x1, .f32⟩
  | 91 => ⟨S32x1, .f32⟩
  | 92 => ⟨S32, .f32⟩
  | 93 => ⟨S1x32, .i32⟩
  | 94 => ⟨S_, .i32⟩
  | 95 => ⟨S32x32, .i32⟩
  | 96 => ⟨S1x32, .f32⟩
  | 97 => ⟨S_, .i32⟩
  | 98 => ⟨S32x32, .f32⟩
  | 99 => ⟨S_, .i32⟩
  | 100 => ⟨S_, .i32⟩
  | 101 => ⟨S4x8x32, .i32⟩
  | 102 => ⟨S32x4x8, .i32⟩
  | 103 => ⟨S4x8x32, .f32⟩
  | 104 => ⟨S32x4x8, .f32⟩
  | _ => ⟨S32x8x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_c_10 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v41_4 : Ref sig .tc := ⟨.hbm, 62, rfl⟩
abbrev main_v41_5 : Ref sig .tc := ⟨.hbm, 63, rfl⟩
abbrev main_while0c_c_16 : Ref sig .tc := ⟨.hbm, 64, rfl⟩
abbrev main_while0c_v46 : Ref sig .tc := ⟨.hbm, 65, rfl⟩
abbrev main_while0b_call0_v0 : Ref sig .tc := ⟨.hbm, 66, rfl⟩
abbrev main_while0b_call0_v1 : Ref sig .tc := ⟨.hbm, 67, rfl⟩
abbrev main_while0b_call0_v2 : Ref sig .tc := ⟨.hbm, 68, rfl⟩
abbrev main_while0b_call0_v3 : Ref sig .tc := ⟨.hbm, 69, rfl⟩
abbrev main_while0b_call0_v4 : Ref sig .tc := ⟨.hbm, 70, rfl⟩
abbrev main_while0b_call0_c : Ref sig .tc := ⟨.hbm, 71, rfl⟩
abbrev main_while0b_call0_v5 : Ref sig .tc := ⟨.hbm, 72, rfl⟩
abbrev main_while0b_call0_v6 : Ref sig .tc := ⟨.hbm, 73, rfl⟩
abbrev main_while0b_call0_c_0 : Ref sig .tc := ⟨.hbm, 74, rfl⟩
abbrev main_while0b_call0_v7 : Ref sig .tc := ⟨.hbm, 75, rfl⟩
abbrev main_while0b_call0_v8 : Ref sig .tc := ⟨.hbm, 76, rfl⟩
abbrev main_while0b_call0_v9 : Ref sig .tc := ⟨.hbm, 77, rfl⟩
abbrev main_while0b_call0_v10 : Ref sig .tc := ⟨.hbm, 78, rfl⟩
abbrev main_while0b_call0_call0_v0 : Ref sig .tc := ⟨.hbm, 79, rfl⟩
abbrev main_while0b_call0_call0_c : Ref sig .tc := ⟨.hbm, 80, rfl⟩
abbrev main_while0b_call0_call0_v1 : Ref sig .tc := ⟨.hbm, 81, rfl⟩
abbrev main_while0b_call0_call0_v2 : Ref sig .tc := ⟨.hbm, 82, rfl⟩
abbrev main_while0b_call0_call0_v3 : Ref sig .tc := ⟨.hbm, 83, rfl⟩
abbrev main_while0b_call0_call0_v4 : Ref sig .tc := ⟨.hbm, 84, rfl⟩
abbrev main_while0b_call0_call0_v5 : Ref sig .tc := ⟨.hbm, 85, rfl⟩
abbrev main_while0b_call0_call0_v6 : Ref sig .tc := ⟨.hbm, 86, rfl⟩
abbrev main_while0b_call0_call0_c_0 : Ref sig .tc := ⟨.hbm, 87, rfl⟩
abbrev main_while0b_call0_call0_v7 : Ref sig .tc := ⟨.hbm, 88, rfl⟩
abbrev main_while0b_call0_call0_v8 : Ref sig .tc := ⟨.hbm, 89, rfl⟩
abbrev main_while0b_call0_call0_c_1 : Ref sig .tc := ⟨.hbm, 90, rfl⟩
abbrev main_while0b_call0_call0_v9 : Ref sig .tc := ⟨.hbm, 91, rfl⟩
abbrev main_while0b_call0_call0_v10 : Ref sig .tc := ⟨.hbm, 92, rfl⟩
abbrev main_while0b_call0_call0_v11 : Ref sig .tc := ⟨.hbm, 93, rfl⟩
abbrev main_while0b_call0_call0_v12 : Ref sig .tc := ⟨.hbm, 94, rfl⟩
abbrev main_while0b_call0_call0_v13 : Ref sig .tc := ⟨.hbm, 95, rfl⟩
abbrev main_while0b_call0_call0_c_2 : Ref sig .tc := ⟨.hbm, 96, rfl⟩
abbrev main_while0b_call0_call0_v14 : Ref sig .tc := ⟨.hbm, 97, rfl⟩
abbrev main_while0b_call0_call0_v15 : Ref sig .tc := ⟨.hbm, 98, rfl⟩
abbrev main_while0b_call0_call0_c_3 : Ref sig .tc := ⟨.hbm, 99, rfl⟩
abbrev main_while0b_call0_call0_v16 : Ref sig .tc := ⟨.hbm, 100, rfl⟩
abbrev main_while0b_call0_call0_v17 : Ref sig .tc := ⟨.hbm, 101, rfl⟩
abbrev main_while0b_call0_call0_v18 : Ref sig .tc := ⟨.hbm, 102, rfl⟩
abbrev main_while0b_call0_call0_v19 : Ref sig .tc := ⟨.hbm, 103, rfl⟩
abbrev main_while0b_call0_call0_v20 : Ref sig .tc := ⟨.hbm, 104, rfl⟩
abbrev main_while0b_call0_call0_c_4 : Ref sig .tc := ⟨.hbm, 105, rfl⟩
abbrev main_while0b_call0_call0_v21 : Ref sig .tc := ⟨.hbm, 106, rfl⟩
abbrev main_while0b_call0_call0_v22 : Ref sig .tc := ⟨.hbm, 107, rfl⟩
abbrev main_while0b_call0_call0_c_5 : Ref sig .tc := ⟨.hbm, 108, rfl⟩
abbrev main_while0b_call0_call0_v23 : Ref sig .tc := ⟨.hbm, 109, rfl⟩
abbrev main_while0b_call0_call0_v24 : Ref sig .tc := ⟨.hbm, 110, rfl⟩
abbrev main_while0b_call0_call0_v25 : Ref sig .tc := ⟨.hbm, 111, rfl⟩
abbrev main_while0b_call0_call0_v26 : Ref sig .tc := ⟨.hbm, 112, rfl⟩
abbrev main_while0b_call0_call0_v27 : Ref sig .tc := ⟨.hbm, 113, rfl⟩
abbrev main_while0b_call0_call0_c_6 : Ref sig .tc := ⟨.hbm, 114, rfl⟩
abbrev main_while0b_call0_call0_v28 : Ref sig .tc := ⟨.hbm, 115, rfl⟩
abbrev main_while0b_call0_call0_v29 : Ref sig .tc := ⟨.hbm, 116, rfl⟩
abbrev main_while0b_call0_call0_c_7 : Ref sig .tc := ⟨.hbm, 117, rfl⟩
abbrev main_while0b_call0_call0_v30 : Ref sig .tc := ⟨.hbm, 118, rfl⟩
abbrev main_while0b_call0_call0_v31 : Ref sig .tc := ⟨.hbm, 119, rfl⟩
abbrev main_while0b_call0_call0_v32 : Ref sig .tc := ⟨.hbm, 120, rfl⟩
abbrev main_while0b_call0_call0_v33 : Ref sig .tc := ⟨.hbm, 121, rfl⟩
abbrev main_while0b_call0_call0_v34 : Ref sig .tc := ⟨.hbm, 122, rfl⟩
abbrev main_while0b_call0_call0_v35 : Ref sig .tc := ⟨.hbm, 123, rfl⟩
abbrev main_while0b_call0_call0_v36 : Ref sig .tc := ⟨.hbm, 124, rfl⟩
abbrev main_while0b_call0_call0_v37 : Ref sig .tc := ⟨.hbm, 125, rfl⟩
abbrev main_while0b_call0_call0_c_8 : Ref sig .tc := ⟨.hbm, 126, rfl⟩
abbrev main_while0b_call0_call0_v38 : Ref sig .tc := ⟨.hbm, 127, rfl⟩
abbrev main_while0b_call0_call0_v39 : Ref sig .tc := ⟨.hbm, 128, rfl⟩
abbrev main_while0b_call0_call0_v40 : Ref sig .tc := ⟨.hbm, 129, rfl⟩
abbrev main_while0b_call0_call0_c_9 : Ref sig .tc := ⟨.hbm, 130, rfl⟩
abbrev main_while0b_call0_call0_v41 : Ref sig .tc := ⟨.hbm, 131, rfl⟩
abbrev main_while0b_call0_call0_v42 : Ref sig .tc := ⟨.hbm, 132, rfl⟩
abbrev main_while0b_call0_call0_c_10 : Ref sig .tc := ⟨.hbm, 133, rfl⟩
abbrev main_while0b_call0_call0_v43 : Ref sig .tc := ⟨.hbm, 134, rfl⟩
abbrev main_while0b_call0_call0_v44 : Ref sig .tc := ⟨.hbm, 135, rfl⟩
abbrev main_while0b_call0_call0_v45 : Ref sig .tc := ⟨.hbm, 136, rfl⟩
abbrev main_while0b_call0_call0_v46 : Ref sig .tc := ⟨.hbm, 137, rfl⟩
abbrev main_while0b_call0_call0_v47 : Ref sig .tc := ⟨.hbm, 138, rfl⟩
abbrev main_while0b_call0_call0_c_11 : Ref sig .tc := ⟨.hbm, 139, rfl⟩
abbrev main_while0b_call0_call0_v48 : Ref sig .tc := ⟨.hbm, 140, rfl⟩
abbrev main_while0b_call0_call0_v49 : Ref sig .tc := ⟨.hbm, 141, rfl⟩
abbrev main_while0b_call0_call0_c_12 : Ref sig .tc := ⟨.hbm, 142, rfl⟩
abbrev main_while0b_call0_call0_v50 : Ref sig .tc := ⟨.hbm, 143, rfl⟩
abbrev main_while0b_call0_call0_v51 : Ref sig .tc := ⟨.hbm, 144, rfl⟩
abbrev main_while0b_call0_call0_v52 : Ref sig .tc := ⟨.hbm, 145, rfl⟩
abbrev main_while0b_call0_call0_v53 : Ref sig .tc := ⟨.hbm, 146, rfl⟩
abbrev main_while0b_call0_call0_v54 : Ref sig .tc := ⟨.hbm, 147, rfl⟩
abbrev main_while0b_call0_call0_c_13 : Ref sig .tc := ⟨.hbm, 148, rfl⟩
abbrev main_while0b_call0_call0_v55 : Ref sig .tc := ⟨.hbm, 149, rfl⟩
abbrev main_while0b_call0_call0_v56 : Ref sig .tc := ⟨.hbm, 150, rfl⟩
abbrev main_while0b_call0_call0_c_14 : Ref sig .tc := ⟨.hbm, 151, rfl⟩
abbrev main_while0b_call0_call0_v57 : Ref sig .tc := ⟨.hbm, 152, rfl⟩
abbrev main_while0b_call0_call0_v58 : Ref sig .tc := ⟨.hbm, 153, rfl⟩
abbrev main_while0b_call0_call0_v59 : Ref sig .tc := ⟨.hbm, 154, rfl⟩
abbrev main_while0b_call0_call0_v60 : Ref sig .tc := ⟨.hbm, 155, rfl⟩
abbrev main_while0b_call0_call0_v61 : Ref sig .tc := ⟨.hbm, 156, rfl⟩
abbrev main_while0b_call0_call0_c_15 : Ref sig .tc := ⟨.hbm, 157, rfl⟩
abbrev main_while0b_call0_call0_v62 : Ref sig .tc := ⟨.hbm, 158, rfl⟩
abbrev main_while0b_call0_call0_v63 : Ref sig .tc := ⟨.hbm, 159, rfl⟩
abbrev main_while0b_call0_call0_c_16 : Ref sig .tc := ⟨.hbm, 160, rfl⟩
abbrev main_while0b_call0_call0_v64 : Ref sig .tc := ⟨.hbm, 161, rfl⟩
abbrev main_while0b_call0_call0_v65 : Ref sig .tc := ⟨.hbm, 162, rfl⟩
abbrev main_while0b_call0_call0_v66 : Ref sig .tc := ⟨.hbm, 163, rfl⟩
abbrev main_while0b_call0_call0_v67 : Ref sig .tc := ⟨.hbm, 164, rfl⟩
abbrev main_while0b_call0_call0_v68 : Ref sig .tc := ⟨.hbm, 165, rfl⟩
abbrev main_while0b_call0_call0_v69 : Ref sig .tc := ⟨.hbm, 166, rfl⟩
abbrev main_while0b_call0_call0_v70 : Ref sig .tc := ⟨.hbm, 167, rfl⟩
abbrev main_while0b_call0_call0_v71 : Ref sig .tc := ⟨.hbm, 168, rfl⟩
abbrev main_while0b_call0_call0_c_17 : Ref sig .tc := ⟨.hbm, 169, rfl⟩
abbrev main_while0b_call0_call0_v72 : Ref sig .tc := ⟨.hbm, 170, rfl⟩
abbrev main_while0b_call0_call0_v73 : Ref sig .tc := ⟨.hbm, 171, rfl⟩
abbrev main_while0b_call0_call0_v74 : Ref sig .tc := ⟨.hbm, 172, rfl⟩
abbrev main_while0b_call0_call0_c_18 : Ref sig .tc := ⟨.hbm, 173, rfl⟩
abbrev main_while0b_call0_call0_v75 : Ref sig .tc := ⟨.hbm, 174, rfl⟩
abbrev main_while0b_call0_call0_v76 : Ref sig .tc := ⟨.hbm, 175, rfl⟩
abbrev main_while0b_call0_call0_c_19 : Ref sig .tc := ⟨.hbm, 176, rfl⟩
abbrev main_while0b_call0_call0_v77 : Ref sig .tc := ⟨.hbm, 177, rfl⟩
abbrev main_while0b_call0_call0_v78 : Ref sig .tc := ⟨.hbm, 178, rfl⟩
abbrev main_while0b_call0_call0_v79 : Ref sig .tc := ⟨.hbm, 179, rfl⟩
abbrev main_while0b_call0_call0_v80 : Ref sig .tc := ⟨.hbm, 180, rfl⟩
abbrev main_while0b_call0_call0_v81 : Ref sig .tc := ⟨.hbm, 181, rfl⟩
abbrev main_while0b_call0_call0_c_20 : Ref sig .tc := ⟨.hbm, 182, rfl⟩
abbrev main_while0b_call0_call0_v82 : Ref sig .tc := ⟨.hbm, 183, rfl⟩
abbrev main_while0b_call0_call0_v83 : Ref sig .tc := ⟨.hbm, 184, rfl⟩
abbrev main_while0b_call0_call0_c_21 : Ref sig .tc := ⟨.hbm, 185, rfl⟩
abbrev main_while0b_call0_call0_v84 : Ref sig .tc := ⟨.hbm, 186, rfl⟩
abbrev main_while0b_call0_call0_v85 : Ref sig .tc := ⟨.hbm, 187, rfl⟩
abbrev main_while0b_call0_call0_v86 : Ref sig .tc := ⟨.hbm, 188, rfl⟩
abbrev main_while0b_call0_call0_v87 : Ref sig .tc := ⟨.hbm, 189, rfl⟩
abbrev main_while0b_call0_call0_v88 : Ref sig .tc := ⟨.hbm, 190, rfl⟩
abbrev main_while0b_call0_call0_c_22 : Ref sig .tc := ⟨.hbm, 191, rfl⟩
abbrev main_while0b_call0_call0_v89 : Ref sig .tc := ⟨.hbm, 192, rfl⟩
abbrev main_while0b_call0_call0_v90 : Ref sig .tc := ⟨.hbm, 193, rfl⟩
abbrev main_while0b_call0_call0_c_23 : Ref sig .tc := ⟨.hbm, 194, rfl⟩
abbrev main_while0b_call0_call0_v91 : Ref sig .tc := ⟨.hbm, 195, rfl⟩
abbrev main_while0b_call0_call0_v92 : Ref sig .tc := ⟨.hbm, 196, rfl⟩
abbrev main_while0b_call0_call0_v93 : Ref sig .tc := ⟨.hbm, 197, rfl⟩
abbrev main_while0b_call0_call0_v94 : Ref sig .tc := ⟨.hbm, 198, rfl⟩
abbrev main_while0b_call0_call0_v95 : Ref sig .tc := ⟨.hbm, 199, rfl⟩
abbrev main_while0b_call0_call0_c_24 : Ref sig .tc := ⟨.hbm, 200, rfl⟩
abbrev main_while0b_call0_call0_v96 : Ref sig .tc := ⟨.hbm, 201, rfl⟩
abbrev main_while0b_call0_call0_v97 : Ref sig .tc := ⟨.hbm, 202, rfl⟩
abbrev main_while0b_call0_call0_c_25 : Ref sig .tc := ⟨.hbm, 203, rfl⟩
abbrev main_while0b_call0_call0_v98 : Ref sig .tc := ⟨.hbm, 204, rfl⟩
abbrev main_while0b_call0_call0_v99 : Ref sig .tc := ⟨.hbm, 205, rfl⟩
abbrev main_while0b_call0_call0_v100 : Ref sig .tc := ⟨.hbm, 206, rfl⟩
abbrev main_while0b_call0_call0_v101 : Ref sig .tc := ⟨.hbm, 207, rfl⟩
abbrev main_while0b_call0_call0_v102 : Ref sig .tc := ⟨.hbm, 208, rfl⟩
abbrev main_while0b_call0_call0_v103 : Ref sig .tc := ⟨.hbm, 209, rfl⟩
abbrev main_while0b_call0_call0_v104 : Ref sig .tc := ⟨.hbm, 210, rfl⟩
abbrev main_while0b_call0_call0_v105 : Ref sig .tc := ⟨.hbm, 211, rfl⟩
abbrev main_while0b_call0_call0_c_26 : Ref sig .tc := ⟨.hbm, 212, rfl⟩
abbrev main_while0b_call0_call0_v106 : Ref sig .tc := ⟨.hbm, 213, rfl⟩
abbrev main_while0b_call0_call0_v107 : Ref sig .tc := ⟨.hbm, 214, rfl⟩
abbrev main_while0b_call0_call0_v108 : Ref sig .tc := ⟨.hbm, 215, rfl⟩
abbrev main_while0b_call0_call0_c_27 : Ref sig .tc := ⟨.hbm, 216, rfl⟩
abbrev main_while0b_call0_call0_v109 : Ref sig .tc := ⟨.hbm, 217, rfl⟩
abbrev main_while0b_call0_call0_v110 : Ref sig .tc := ⟨.hbm, 218, rfl⟩
abbrev main_while0b_call0_call0_c_28 : Ref sig .tc := ⟨.hbm, 219, rfl⟩
abbrev main_while0b_call0_call0_v111 : Ref sig .tc := ⟨.hbm, 220, rfl⟩
abbrev main_while0b_call0_call0_v112 : Ref sig .tc := ⟨.hbm, 221, rfl⟩
abbrev main_while0b_call0_call0_v113 : Ref sig .tc := ⟨.hbm, 222, rfl⟩
abbrev main_while0b_call0_call0_v114 : Ref sig .tc := ⟨.hbm, 223, rfl⟩
abbrev main_while0b_call0_call0_v115 : Ref sig .tc := ⟨.hbm, 224, rfl⟩
abbrev main_while0b_call0_call0_c_29 : Ref sig .tc := ⟨.hbm, 225, rfl⟩
abbrev main_while0b_call0_call0_v116 : Ref sig .tc := ⟨.hbm, 226, rfl⟩
abbrev main_while0b_call0_call0_v117 : Ref sig .tc := ⟨.hbm, 227, rfl⟩
abbrev main_while0b_call0_call0_c_30 : Ref sig .tc := ⟨.hbm, 228, rfl⟩
abbrev main_while0b_call0_call0_v118 : Ref sig .tc := ⟨.hbm, 229, rfl⟩
abbrev main_while0b_call0_call0_v119 : Ref sig .tc := ⟨.hbm, 230, rfl⟩
abbrev main_while0b_call0_call0_v120 : Ref sig .tc := ⟨.hbm, 231, rfl⟩
abbrev main_while0b_call0_call0_v121 : Ref sig .tc := ⟨.hbm, 232, rfl⟩
abbrev main_while0b_call0_call0_v122 : Ref sig .tc := ⟨.hbm, 233, rfl⟩
abbrev main_while0b_call0_call0_c_31 : Ref sig .tc := ⟨.hbm, 234, rfl⟩
abbrev main_while0b_call0_call0_v123 : Ref sig .tc := ⟨.hbm, 235, rfl⟩
abbrev main_while0b_call0_call0_v124 : Ref sig .tc := ⟨.hbm, 236, rfl⟩
abbrev main_while0b_call0_call0_c_32 : Ref sig .tc := ⟨.hbm, 237, rfl⟩
abbrev main_while0b_call0_call0_v125 : Ref sig .tc := ⟨.hbm, 238, rfl⟩
abbrev main_while0b_call0_call0_v126 : Ref sig .tc := ⟨.hbm, 239, rfl⟩
abbrev main_while0b_call0_call0_v127 : Ref sig .tc := ⟨.hbm, 240, rfl⟩
abbrev main_while0b_call0_call0_v128 : Ref sig .tc := ⟨.hbm, 241, rfl⟩
abbrev main_while0b_call0_call0_v129 : Ref sig .tc := ⟨.hbm, 242, rfl⟩
abbrev main_while0b_call0_call0_c_33 : Ref sig .tc := ⟨.hbm, 243, rfl⟩
abbrev main_while0b_call0_call0_v130 : Ref sig .tc := ⟨.hbm, 244, rfl⟩
abbrev main_while0b_call0_call0_v131 : Ref sig .tc := ⟨.hbm, 245, rfl⟩
abbrev main_while0b_call0_call0_c_34 : Ref sig .tc := ⟨.hbm, 246, rfl⟩
abbrev main_while0b_call0_call0_v132 : Ref sig .tc := ⟨.hbm, 247, rfl⟩
abbrev main_while0b_call0_call0_v133 : Ref sig .tc := ⟨.hbm, 248, rfl⟩
abbrev main_while0b_call0_call0_v134 : Ref sig .tc := ⟨.hbm, 249, rfl⟩
abbrev main_while0b_call0_call0_v135 : Ref sig .tc := ⟨.hbm, 250, rfl⟩
abbrev main_while0b_call0_call0_v136 : Ref sig .tc := ⟨.hbm, 251, rfl⟩
abbrev main_while0b_call0_call0_v137 : Ref sig .tc := ⟨.hbm, 252, rfl⟩
abbrev main_while0b_call0_call0_v138 : Ref sig .tc := ⟨.hbm, 253, rfl⟩
abbrev main_while0b_call0_call0_v139 : Ref sig .tc := ⟨.hbm, 254, rfl⟩
abbrev main_while0b_call0_call0_c_35 : Ref sig .tc := ⟨.hbm, 255, rfl⟩
abbrev main_while0b_call0_call0_v140 : Ref sig .tc := ⟨.hbm, 256, rfl⟩
abbrev main_while0b_call0_call0_v141 : Ref sig .tc := ⟨.hbm, 257, rfl⟩
abbrev main_while0b_call0_call0_v142 : Ref sig .tc := ⟨.hbm, 258, rfl⟩
abbrev main_while0b_call0_call0_c_36 : Ref sig .tc := ⟨.hbm, 259, rfl⟩
abbrev main_while0b_call0_call0_v143 : Ref sig .tc := ⟨.hbm, 260, rfl⟩
abbrev main_while0b_call0_call0_v144 : Ref sig .tc := ⟨.hbm, 261, rfl⟩
abbrev main_while0b_call0_call0_c_37 : Ref sig .tc := ⟨.hbm, 262, rfl⟩
abbrev main_while0b_call0_call0_v145 : Ref sig .tc := ⟨.hbm, 263, rfl⟩
abbrev main_while0b_call0_call0_v146 : Ref sig .tc := ⟨.hbm, 264, rfl⟩
abbrev main_while0b_call0_call0_v147 : Ref sig .tc := ⟨.hbm, 265, rfl⟩
abbrev main_while0b_call0_call0_v148 : Ref sig .tc := ⟨.hbm, 266, rfl⟩
abbrev main_while0b_call0_call0_v149 : Ref sig .tc := ⟨.hbm, 267, rfl⟩
abbrev main_while0b_call0_call0_c_38 : Ref sig .tc := ⟨.hbm, 268, rfl⟩
abbrev main_while0b_call0_call0_v150 : Ref sig .tc := ⟨.hbm, 269, rfl⟩
abbrev main_while0b_call0_call0_v151 : Ref sig .tc := ⟨.hbm, 270, rfl⟩
abbrev main_while0b_call0_call0_c_39 : Ref sig .tc := ⟨.hbm, 271, rfl⟩
abbrev main_while0b_call0_call0_v152 : Ref sig .tc := ⟨.hbm, 272, rfl⟩
abbrev main_while0b_call0_call0_v153 : Ref sig .tc := ⟨.hbm, 273, rfl⟩
abbrev main_while0b_call0_call0_v154 : Ref sig .tc := ⟨.hbm, 274, rfl⟩
abbrev main_while0b_call0_call0_v155 : Ref sig .tc := ⟨.hbm, 275, rfl⟩
abbrev main_while0b_call0_call0_v156 : Ref sig .tc := ⟨.hbm, 276, rfl⟩
abbrev main_while0b_call0_call0_c_40 : Ref sig .tc := ⟨.hbm, 277, rfl⟩
abbrev main_while0b_call0_call0_v157 : Ref sig .tc := ⟨.hbm, 278, rfl⟩
abbrev main_while0b_call0_call0_v158 : Ref sig .tc := ⟨.hbm, 279, rfl⟩
abbrev main_while0b_call0_call0_c_41 : Ref sig .tc := ⟨.hbm, 280, rfl⟩
abbrev main_while0b_call0_call0_v159 : Ref sig .tc := ⟨.hbm, 281, rfl⟩
abbrev main_while0b_call0_call0_v160 : Ref sig .tc := ⟨.hbm, 282, rfl⟩
abbrev main_while0b_call0_call0_v161 : Ref sig .tc := ⟨.hbm, 283, rfl⟩
abbrev main_while0b_call0_call0_v162 : Ref sig .tc := ⟨.hbm, 284, rfl⟩
abbrev main_while0b_call0_call0_v163 : Ref sig .tc := ⟨.hbm, 285, rfl⟩
abbrev main_while0b_call0_call0_c_42 : Ref sig .tc := ⟨.hbm, 286, rfl⟩
abbrev main_while0b_call0_call0_v164 : Ref sig .tc := ⟨.hbm, 287, rfl⟩
abbrev main_while0b_call0_call0_v165 : Ref sig .tc := ⟨.hbm, 288, rfl⟩
abbrev main_while0b_call0_call0_c_43 : Ref sig .tc := ⟨.hbm, 289, rfl⟩
abbrev main_while0b_call0_call0_v166 : Ref sig .tc := ⟨.hbm, 290, rfl⟩
abbrev main_while0b_call0_call0_v167 : Ref sig .tc := ⟨.hbm, 291, rfl⟩
abbrev main_while0b_call0_call0_v168 : Ref sig .tc := ⟨.hbm, 292, rfl⟩
abbrev main_while0b_call0_call0_v169 : Ref sig .tc := ⟨.hbm, 293, rfl⟩
abbrev main_while0b_call0_call0_v170 : Ref sig .tc := ⟨.hbm, 294, rfl⟩
abbrev main_while0b_call0_v11_0 : Ref sig .tc := ⟨.hbm, 295, rfl⟩
abbrev main_while0b_call0_call0_v172 : Ref sig .tc := ⟨.hbm, 296, rfl⟩
abbrev main_while0b_call0_call0_v173 : Ref sig .tc := ⟨.hbm, 297, rfl⟩
abbrev main_while0b_call0_call0_c_44 : Ref sig .tc := ⟨.hbm, 298, rfl⟩
abbrev main_while0b_call0_call0_v174 : Ref sig .tc := ⟨.hbm, 299, rfl⟩
abbrev main_while0b_call0_v11_1 : Ref sig .tc := ⟨.hbm, 300, rfl⟩
abbrev main_while0b_call0_v12 : Ref sig .tc := ⟨.hbm, 301, rfl⟩
abbrev main_while0b_call0_v13 : Ref sig .tc := ⟨.hbm, 302, rfl⟩
abbrev main_while0b_v46 : Ref sig .tc := ⟨.hbm, 303, rfl⟩
abbrev main_while0b_v47 : Ref sig .tc := ⟨.hbm, 304, rfl⟩
abbrev main_while0b_v48 : Ref sig .tc := ⟨.hbm, 305, rfl⟩
abbrev main_while0b_v49 : Ref sig .tc := ⟨.hbm, 306, rfl⟩
abbrev main_while0b_v50 : Ref sig .tc := ⟨.hbm, 307, rfl⟩
abbrev main_while0b_call1_cst : Ref sig .tc := ⟨.hbm, 308, rfl⟩
abbrev main_while0b_call1_cst_0 : Ref sig .tc := ⟨.hbm, 309, rfl⟩
abbrev main_while0b_call1_call0_v0 : Ref sig .tc := ⟨.hbm, 310, rfl⟩
abbrev main_while0b_call1_call0_v1 : Ref sig .tc := ⟨.hbm, 311, rfl⟩
abbrev main_while0b_call1_call0_v2 : Ref sig .tc := ⟨.hbm, 312, rfl⟩
abbrev main_while0b_call1_call0_v3 : Ref sig .tc := ⟨.hbm, 313, rfl⟩
abbrev main_while0b_call1_call0_v4 : Ref sig .tc := ⟨.hbm, 314, rfl⟩
abbrev main_while0b_call1_call0_v5 : Ref sig .tc := ⟨.hbm, 315, rfl⟩
abbrev main_while0b_call1_call0_v6 : Ref sig .tc := ⟨.hbm, 316, rfl⟩
abbrev main_while0b_call1_call0_v7 : Ref sig .tc := ⟨.hbm, 317, rfl⟩
abbrev main_while0b_call1_call0_v8 : Ref sig .tc := ⟨.hbm, 318, rfl⟩
abbrev main_while0b_call1_call0_c : Ref sig .tc := ⟨.hbm, 319, rfl⟩
abbrev main_while0b_call1_call0_v9 : Ref sig .tc := ⟨.hbm, 320, rfl⟩
abbrev main_while0b_call1_call0_v10 : Ref sig .tc := ⟨.hbm, 321, rfl⟩
abbrev main_while0b_call1_call0_c_0 : Ref sig .tc := ⟨.hbm, 322, rfl⟩
abbrev main_while0b_call1_call0_v11 : Ref sig .tc := ⟨.hbm, 323, rfl⟩
abbrev main_while0b_call1_call0_v12 : Ref sig .tc := ⟨.hbm, 324, rfl⟩
abbrev main_while0b_call1_call0_v13 : Ref sig .tc := ⟨.hbm, 325, rfl⟩
abbrev main_while0b_call1_call0_c_1 : Ref sig .tc := ⟨.hbm, 326, rfl⟩
abbrev main_while0b_call1_call0_v14 : Ref sig .tc := ⟨.hbm, 327, rfl⟩
abbrev main_while0b_call1_call0_v15 : Ref sig .tc := ⟨.hbm, 328, rfl⟩
abbrev main_while0b_call1_call0_v16 : Ref sig .tc := ⟨.hbm, 329, rfl⟩
abbrev main_while0b_call1_call0_v17 : Ref sig .tc := ⟨.hbm, 330, rfl⟩
abbrev main_while0b_call1_call0_call0_v0 : Ref sig .tc := ⟨.hbm, 331, rfl⟩
abbrev main_while0b_call1_call0_call0_c : Ref sig .tc := ⟨.hbm, 332, rfl⟩
abbrev main_while0b_call1_call0_call0_v1 : Ref sig .tc := ⟨.hbm, 333, rfl⟩
abbrev main_while0b_call1_call0_call0_v2 : Ref sig .tc := ⟨.hbm, 334, rfl⟩
abbrev main_while0b_call1_call0_call0_v3 : Ref sig .tc := ⟨.hbm, 335, rfl⟩
abbrev main_while0b_call1_call0_call0_v4 : Ref sig .tc := ⟨.hbm, 336, rfl⟩
abbrev main_while0b_call1_call0_call0_v5 : Ref sig .tc := ⟨.hbm, 337, rfl⟩
abbrev main_while0b_call1_call0_call0_v6 : Ref sig .tc := ⟨.hbm, 338, rfl⟩
abbrev main_while0b_call1_call0_call0_c_0 : Ref sig .tc := ⟨.hbm, 339, rfl⟩
abbrev main_while0b_call1_call0_call0_v7 : Ref sig .tc := ⟨.hbm, 340, rfl⟩
abbrev main_while0b_call1_call0_call0_v8 : Ref sig .tc := ⟨.hbm, 341, rfl⟩
abbrev main_while0b_call1_call0_call0_c_1 : Ref sig .tc := ⟨.hbm, 342, rfl⟩
abbrev main_while0b_call1_call0_call0_v9 : Ref sig .tc := ⟨.hbm, 343, rfl⟩
abbrev main_while0b_call1_call0_call0_v10 : Ref sig .tc := ⟨.hbm, 344, rfl⟩
abbrev main_while0b_call1_call0_call0_v11 : Ref sig .tc := ⟨.hbm, 345, rfl⟩
abbrev main_while0b_call1_call0_call0_v12 : Ref sig .tc := ⟨.hbm, 346, rfl⟩
abbrev main_while0b_call1_call0_call0_v13 : Ref sig .tc := ⟨.hbm, 347, rfl⟩
abbrev main_while0b_call1_call0_call0_c_2 : Ref sig .tc := ⟨.hbm, 348, rfl⟩
abbrev main_while0b_call1_call0_call0_v14 : Ref sig .tc := ⟨.hbm, 349, rfl⟩
abbrev main_while0b_call1_call0_call0_v15 : Ref sig .tc := ⟨.hbm, 350, rfl⟩
abbrev main_while0b_call1_call0_call0_c_3 : Ref sig .tc := ⟨.hbm, 351, rfl⟩
abbrev main_while0b_call1_call0_call0_v16 : Ref sig .tc := ⟨.hbm, 352, rfl⟩
abbrev main_while0b_call1_call0_call0_v17 : Ref sig .tc := ⟨.hbm, 353, rfl⟩
abbrev main_while0b_call1_call0_call0_v18 : Ref sig .tc := ⟨.hbm, 354, rfl⟩
abbrev main_while0b_call1_call0_call0_v19 : Ref sig .tc := ⟨.hbm, 355, rfl⟩
abbrev main_while0b_call1_call0_call0_v20 : Ref sig .tc := ⟨.hbm, 356, rfl⟩
abbrev main_while0b_call1_call0_call0_c_4 : Ref sig .tc := ⟨.hbm, 357, rfl⟩
abbrev main_while0b_call1_call0_call0_v21 : Ref sig .tc := ⟨.hbm, 358, rfl⟩
abbrev main_while0b_call1_call0_call0_v22 : Ref sig .tc := ⟨.hbm, 359, rfl⟩
abbrev main_while0b_call1_call0_call0_c_5 : Ref sig .tc := ⟨.hbm, 360, rfl⟩
abbrev main_while0b_call1_call0_call0_v23 : Ref sig .tc := ⟨.hbm, 361, rfl⟩
abbrev main_while0b_call1_call0_call0_v24 : Ref sig .tc := ⟨.hbm, 362, rfl⟩
abbrev main_while0b_call1_call0_call0_v25 : Ref sig .tc := ⟨.hbm, 363, rfl⟩
abbrev main_while0b_call1_call0_call0_v26 : Ref sig .tc := ⟨.hbm, 364, rfl⟩
abbrev main_while0b_call1_call0_call0_v27 : Ref sig .tc := ⟨.hbm, 365, rfl⟩
abbrev main_while0b_call1_call0_call0_c_6 : Ref sig .tc := ⟨.hbm, 366, rfl⟩
abbrev main_while0b_call1_call0_call0_v28 : Ref sig .tc := ⟨.hbm, 367, rfl⟩
abbrev main_while0b_call1_call0_call0_v29 : Ref sig .tc := ⟨.hbm, 368, rfl⟩
abbrev main_while0b_call1_call0_call0_c_7 : Ref sig .tc := ⟨.hbm, 369, rfl⟩
abbrev main_while0b_call1_call0_call0_v30 : Ref sig .tc := ⟨.hbm, 370, rfl⟩
abbrev main_while0b_call1_call0_call0_v31 : Ref sig .tc := ⟨.hbm, 371, rfl⟩
abbrev main_while0b_call1_call0_call0_v32 : Ref sig .tc := ⟨.hbm, 372, rfl⟩
abbrev main_while0b_call1_call0_call0_v33 : Ref sig .tc := ⟨.hbm, 373, rfl⟩
abbrev main_while0b_call1_call0_call0_v34 : Ref sig .tc := ⟨.hbm, 374, rfl⟩
abbrev main_while0b_call1_call0_call0_v35 : Ref sig .tc := ⟨.hbm, 375, rfl⟩
abbrev main_while0b_call1_call0_call0_v36 : Ref sig .tc := ⟨.hbm, 376, rfl⟩
abbrev main_while0b_call1_call0_call0_v37 : Ref sig .tc := ⟨.hbm, 377, rfl⟩
abbrev main_while0b_call1_call0_call0_c_8 : Ref sig .tc := ⟨.hbm, 378, rfl⟩
abbrev main_while0b_call1_call0_call0_v38 : Ref sig .tc := ⟨.hbm, 379, rfl⟩
abbrev main_while0b_call1_call0_call0_v39 : Ref sig .tc := ⟨.hbm, 380, rfl⟩
abbrev main_while0b_call1_call0_call0_v40 : Ref sig .tc := ⟨.hbm, 381, rfl⟩
abbrev main_while0b_call1_call0_call0_c_9 : Ref sig .tc := ⟨.hbm, 382, rfl⟩
abbrev main_while0b_call1_call0_call0_v41 : Ref sig .tc := ⟨.hbm, 383, rfl⟩
abbrev main_while0b_call1_call0_call0_v42 : Ref sig .tc := ⟨.hbm, 384, rfl⟩
abbrev main_while0b_call1_call0_call0_c_10 : Ref sig .tc := ⟨.hbm, 385, rfl⟩
abbrev main_while0b_call1_call0_call0_v43 : Ref sig .tc := ⟨.hbm, 386, rfl⟩
abbrev main_while0b_call1_call0_call0_v44 : Ref sig .tc := ⟨.hbm, 387, rfl⟩
abbrev main_while0b_call1_call0_call0_v45 : Ref sig .tc := ⟨.hbm, 388, rfl⟩
abbrev main_while0b_call1_call0_call0_v46 : Ref sig .tc := ⟨.hbm, 389, rfl⟩
abbrev main_while0b_call1_call0_call0_v47 : Ref sig .tc := ⟨.hbm, 390, rfl⟩
abbrev main_while0b_call1_call0_call0_c_11 : Ref sig .tc := ⟨.hbm, 391, rfl⟩
abbrev main_while0b_call1_call0_call0_v48 : Ref sig .tc := ⟨.hbm, 392, rfl⟩
abbrev main_while0b_call1_call0_call0_v49 : Ref sig .tc := ⟨.hbm, 393, rfl⟩
abbrev main_while0b_call1_call0_call0_c_12 : Ref sig .tc := ⟨.hbm, 394, rfl⟩
abbrev main_while0b_call1_call0_call0_v50 : Ref sig .tc := ⟨.hbm, 395, rfl⟩
abbrev main_while0b_call1_call0_call0_v51 : Ref sig .tc := ⟨.hbm, 396, rfl⟩
abbrev main_while0b_call1_call0_call0_v52 : Ref sig .tc := ⟨.hbm, 397, rfl⟩
abbrev main_while0b_call1_call0_call0_v53 : Ref sig .tc := ⟨.hbm, 398, rfl⟩
abbrev main_while0b_call1_call0_call0_v54 : Ref sig .tc := ⟨.hbm, 399, rfl⟩
abbrev main_while0b_call1_call0_call0_c_13 : Ref sig .tc := ⟨.hbm, 400, rfl⟩
abbrev main_while0b_call1_call0_call0_v55 : Ref sig .tc := ⟨.hbm, 401, rfl⟩
abbrev main_while0b_call1_call0_call0_v56 : Ref sig .tc := ⟨.hbm, 402, rfl⟩
abbrev main_while0b_call1_call0_call0_c_14 : Ref sig .tc := ⟨.hbm, 403, rfl⟩
abbrev main_while0b_call1_call0_call0_v57 : Ref sig .tc := ⟨.hbm, 404, rfl⟩
abbrev main_while0b_call1_call0_call0_v58 : Ref sig .tc := ⟨.hbm, 405, rfl⟩
abbrev main_while0b_call1_call0_call0_v59 : Ref sig .tc := ⟨.hbm, 406, rfl⟩
abbrev main_while0b_call1_call0_call0_v60 : Ref sig .tc := ⟨.hbm, 407, rfl⟩
abbrev main_while0b_call1_call0_call0_v61 : Ref sig .tc := ⟨.hbm, 408, rfl⟩
abbrev main_while0b_call1_call0_call0_c_15 : Ref sig .tc := ⟨.hbm, 409, rfl⟩
abbrev main_while0b_call1_call0_call0_v62 : Ref sig .tc := ⟨.hbm, 410, rfl⟩
abbrev main_while0b_call1_call0_call0_v63 : Ref sig .tc := ⟨.hbm, 411, rfl⟩
abbrev main_while0b_call1_call0_call0_c_16 : Ref sig .tc := ⟨.hbm, 412, rfl⟩
abbrev main_while0b_call1_call0_call0_v64 : Ref sig .tc := ⟨.hbm, 413, rfl⟩
abbrev main_while0b_call1_call0_call0_v65 : Ref sig .tc := ⟨.hbm, 414, rfl⟩
abbrev main_while0b_call1_call0_call0_v66 : Ref sig .tc := ⟨.hbm, 415, rfl⟩
abbrev main_while0b_call1_call0_call0_v67 : Ref sig .tc := ⟨.hbm, 416, rfl⟩
abbrev main_while0b_call1_call0_call0_v68 : Ref sig .tc := ⟨.hbm, 417, rfl⟩
abbrev main_while0b_call1_call0_call0_v69 : Ref sig .tc := ⟨.hbm, 418, rfl⟩
abbrev main_while0b_call1_call0_call0_v70 : Ref sig .tc := ⟨.hbm, 419, rfl⟩
abbrev main_while0b_call1_call0_call0_v71 : Ref sig .tc := ⟨.hbm, 420, rfl⟩
abbrev main_while0b_call1_call0_call0_c_17 : Ref sig .tc := ⟨.hbm, 421, rfl⟩
abbrev main_while0b_call1_call0_call0_v72 : Ref sig .tc := ⟨.hbm, 422, rfl⟩
abbrev main_while0b_call1_call0_call0_v73 : Ref sig .tc := ⟨.hbm, 423, rfl⟩
abbrev main_while0b_call1_call0_call0_v74 : Ref sig .tc := ⟨.hbm, 424, rfl⟩
abbrev main_while0b_call1_call0_call0_c_18 : Ref sig .tc := ⟨.hbm, 425, rfl⟩
abbrev main_while0b_call1_call0_call0_v75 : Ref sig .tc := ⟨.hbm, 426, rfl⟩
abbrev main_while0b_call1_call0_call0_v76 : Ref sig .tc := ⟨.hbm, 427, rfl⟩
abbrev main_while0b_call1_call0_call0_c_19 : Ref sig .tc := ⟨.hbm, 428, rfl⟩
abbrev main_while0b_call1_call0_call0_v77 : Ref sig .tc := ⟨.hbm, 429, rfl⟩
abbrev main_while0b_call1_call0_call0_v78 : Ref sig .tc := ⟨.hbm, 430, rfl⟩
abbrev main_while0b_call1_call0_call0_v79 : Ref sig .tc := ⟨.hbm, 431, rfl⟩
abbrev main_while0b_call1_call0_call0_v80 : Ref sig .tc := ⟨.hbm, 432, rfl⟩
abbrev main_while0b_call1_call0_call0_v81 : Ref sig .tc := ⟨.hbm, 433, rfl⟩
abbrev main_while0b_call1_call0_call0_c_20 : Ref sig .tc := ⟨.hbm, 434, rfl⟩
abbrev main_while0b_call1_call0_call0_v82 : Ref sig .tc := ⟨.hbm, 435, rfl⟩
abbrev main_while0b_call1_call0_call0_v83 : Ref sig .tc := ⟨.hbm, 436, rfl⟩
abbrev main_while0b_call1_call0_call0_c_21 : Ref sig .tc := ⟨.hbm, 437, rfl⟩
abbrev main_while0b_call1_call0_call0_v84 : Ref sig .tc := ⟨.hbm, 438, rfl⟩
abbrev main_while0b_call1_call0_call0_v85 : Ref sig .tc := ⟨.hbm, 439, rfl⟩
abbrev main_while0b_call1_call0_call0_v86 : Ref sig .tc := ⟨.hbm, 440, rfl⟩
abbrev main_while0b_call1_call0_call0_v87 : Ref sig .tc := ⟨.hbm, 441, rfl⟩
abbrev main_while0b_call1_call0_call0_v88 : Ref sig .tc := ⟨.hbm, 442, rfl⟩
abbrev main_while0b_call1_call0_call0_c_22 : Ref sig .tc := ⟨.hbm, 443, rfl⟩
abbrev main_while0b_call1_call0_call0_v89 : Ref sig .tc := ⟨.hbm, 444, rfl⟩
abbrev main_while0b_call1_call0_call0_v90 : Ref sig .tc := ⟨.hbm, 445, rfl⟩
abbrev main_while0b_call1_call0_call0_c_23 : Ref sig .tc := ⟨.hbm, 446, rfl⟩
abbrev main_while0b_call1_call0_call0_v91 : Ref sig .tc := ⟨.hbm, 447, rfl⟩
abbrev main_while0b_call1_call0_call0_v92 : Ref sig .tc := ⟨.hbm, 448, rfl⟩
abbrev main_while0b_call1_call0_call0_v93 : Ref sig .tc := ⟨.hbm, 449, rfl⟩
abbrev main_while0b_call1_call0_call0_v94 : Ref sig .tc := ⟨.hbm, 450, rfl⟩
abbrev main_while0b_call1_call0_call0_v95 : Ref sig .tc := ⟨.hbm, 451, rfl⟩
abbrev main_while0b_call1_call0_call0_c_24 : Ref sig .tc := ⟨.hbm, 452, rfl⟩
abbrev main_while0b_call1_call0_call0_v96 : Ref sig .tc := ⟨.hbm, 453, rfl⟩
abbrev main_while0b_call1_call0_call0_v97 : Ref sig .tc := ⟨.hbm, 454, rfl⟩
abbrev main_while0b_call1_call0_call0_c_25 : Ref sig .tc := ⟨.hbm, 455, rfl⟩
abbrev main_while0b_call1_call0_call0_v98 : Ref sig .tc := ⟨.hbm, 456, rfl⟩
abbrev main_while0b_call1_call0_call0_v99 : Ref sig .tc := ⟨.hbm, 457, rfl⟩
abbrev main_while0b_call1_call0_call0_v100 : Ref sig .tc := ⟨.hbm, 458, rfl⟩
abbrev main_while0b_call1_call0_call0_v101 : Ref sig .tc := ⟨.hbm, 459, rfl⟩
abbrev main_while0b_call1_call0_call0_v102 : Ref sig .tc := ⟨.hbm, 460, rfl⟩
abbrev main_while0b_call1_call0_call0_v103 : Ref sig .tc := ⟨.hbm, 461, rfl⟩
abbrev main_while0b_call1_call0_call0_v104 : Ref sig .tc := ⟨.hbm, 462, rfl⟩
abbrev main_while0b_call1_call0_call0_v105 : Ref sig .tc := ⟨.hbm, 463, rfl⟩
abbrev main_while0b_call1_call0_call0_c_26 : Ref sig .tc := ⟨.hbm, 464, rfl⟩
abbrev main_while0b_call1_call0_call0_v106 : Ref sig .tc := ⟨.hbm, 465, rfl⟩
abbrev main_while0b_call1_call0_call0_v107 : Ref sig .tc := ⟨.hbm, 466, rfl⟩
abbrev main_while0b_call1_call0_call0_v108 : Ref sig .tc := ⟨.hbm, 467, rfl⟩
abbrev main_while0b_call1_call0_call0_c_27 : Ref sig .tc := ⟨.hbm, 468, rfl⟩
abbrev main_while0b_call1_call0_call0_v109 : Ref sig .tc := ⟨.hbm, 469, rfl⟩
abbrev main_while0b_call1_call0_call0_v110 : Ref sig .tc := ⟨.hbm, 470, rfl⟩
abbrev main_while0b_call1_call0_call0_c_28 : Ref sig .tc := ⟨.hbm, 471, rfl⟩
abbrev main_while0b_call1_call0_call0_v111 : Ref sig .tc := ⟨.hbm, 472, rfl⟩
abbrev main_while0b_call1_call0_call0_v112 : Ref sig .tc := ⟨.hbm, 473, rfl⟩
abbrev main_while0b_call1_call0_call0_v113 : Ref sig .tc := ⟨.hbm, 474, rfl⟩
abbrev main_while0b_call1_call0_call0_v114 : Ref sig .tc := ⟨.hbm, 475, rfl⟩
abbrev main_while0b_call1_call0_call0_v115 : Ref sig .tc := ⟨.hbm, 476, rfl⟩
abbrev main_while0b_call1_call0_call0_c_29 : Ref sig .tc := ⟨.hbm, 477, rfl⟩
abbrev main_while0b_call1_call0_call0_v116 : Ref sig .tc := ⟨.hbm, 478, rfl⟩
abbrev main_while0b_call1_call0_call0_v117 : Ref sig .tc := ⟨.hbm, 479, rfl⟩
abbrev main_while0b_call1_call0_call0_c_30 : Ref sig .tc := ⟨.hbm, 480, rfl⟩
abbrev main_while0b_call1_call0_call0_v118 : Ref sig .tc := ⟨.hbm, 481, rfl⟩
abbrev main_while0b_call1_call0_call0_v119 : Ref sig .tc := ⟨.hbm, 482, rfl⟩
abbrev main_while0b_call1_call0_call0_v120 : Ref sig .tc := ⟨.hbm, 483, rfl⟩
abbrev main_while0b_call1_call0_call0_v121 : Ref sig .tc := ⟨.hbm, 484, rfl⟩
abbrev main_while0b_call1_call0_call0_v122 : Ref sig .tc := ⟨.hbm, 485, rfl⟩
abbrev main_while0b_call1_call0_call0_c_31 : Ref sig .tc := ⟨.hbm, 486, rfl⟩
abbrev main_while0b_call1_call0_call0_v123 : Ref sig .tc := ⟨.hbm, 487, rfl⟩
abbrev main_while0b_call1_call0_call0_v124 : Ref sig .tc := ⟨.hbm, 488, rfl⟩
abbrev main_while0b_call1_call0_call0_c_32 : Ref sig .tc := ⟨.hbm, 489, rfl⟩
abbrev main_while0b_call1_call0_call0_v125 : Ref sig .tc := ⟨.hbm, 490, rfl⟩
abbrev main_while0b_call1_call0_call0_v126 : Ref sig .tc := ⟨.hbm, 491, rfl⟩
abbrev main_while0b_call1_call0_call0_v127 : Ref sig .tc := ⟨.hbm, 492, rfl⟩
abbrev main_while0b_call1_call0_call0_v128 : Ref sig .tc := ⟨.hbm, 493, rfl⟩
abbrev main_while0b_call1_call0_call0_v129 : Ref sig .tc := ⟨.hbm, 494, rfl⟩
abbrev main_while0b_call1_call0_call0_c_33 : Ref sig .tc := ⟨.hbm, 495, rfl⟩
abbrev main_while0b_call1_call0_call0_v130 : Ref sig .tc := ⟨.hbm, 496, rfl⟩
abbrev main_while0b_call1_call0_call0_v131 : Ref sig .tc := ⟨.hbm, 497, rfl⟩
abbrev main_while0b_call1_call0_call0_c_34 : Ref sig .tc := ⟨.hbm, 498, rfl⟩
abbrev main_while0b_call1_call0_call0_v132 : Ref sig .tc := ⟨.hbm, 499, rfl⟩
abbrev main_while0b_call1_call0_call0_v133 : Ref sig .tc := ⟨.hbm, 500, rfl⟩
abbrev main_while0b_call1_call0_call0_v134 : Ref sig .tc := ⟨.hbm, 501, rfl⟩
abbrev main_while0b_call1_call0_call0_v135 : Ref sig .tc := ⟨.hbm, 502, rfl⟩
abbrev main_while0b_call1_call0_call0_v136 : Ref sig .tc := ⟨.hbm, 503, rfl⟩
abbrev main_while0b_call1_call0_call0_v137 : Ref sig .tc := ⟨.hbm, 504, rfl⟩
abbrev main_while0b_call1_call0_call0_v138 : Ref sig .tc := ⟨.hbm, 505, rfl⟩
abbrev main_while0b_call1_call0_call0_v139 : Ref sig .tc := ⟨.hbm, 506, rfl⟩
abbrev main_while0b_call1_call0_call0_c_35 : Ref sig .tc := ⟨.hbm, 507, rfl⟩
abbrev main_while0b_call1_call0_call0_v140 : Ref sig .tc := ⟨.hbm, 508, rfl⟩
abbrev main_while0b_call1_call0_call0_v141 : Ref sig .tc := ⟨.hbm, 509, rfl⟩
abbrev main_while0b_call1_call0_call0_v142 : Ref sig .tc := ⟨.hbm, 510, rfl⟩
abbrev main_while0b_call1_call0_call0_c_36 : Ref sig .tc := ⟨.hbm, 511, rfl⟩
abbrev main_while0b_call1_call0_call0_v143 : Ref sig .tc := ⟨.hbm, 512, rfl⟩
abbrev main_while0b_call1_call0_call0_v144 : Ref sig .tc := ⟨.hbm, 513, rfl⟩
abbrev main_while0b_call1_call0_call0_c_37 : Ref sig .tc := ⟨.hbm, 514, rfl⟩
abbrev main_while0b_call1_call0_call0_v145 : Ref sig .tc := ⟨.hbm, 515, rfl⟩
abbrev main_while0b_call1_call0_call0_v146 : Ref sig .tc := ⟨.hbm, 516, rfl⟩
abbrev main_while0b_call1_call0_call0_v147 : Ref sig .tc := ⟨.hbm, 517, rfl⟩
abbrev main_while0b_call1_call0_call0_v148 : Ref sig .tc := ⟨.hbm, 518, rfl⟩
abbrev main_while0b_call1_call0_call0_v149 : Ref sig .tc := ⟨.hbm, 519, rfl⟩
abbrev main_while0b_call1_call0_call0_c_38 : Ref sig .tc := ⟨.hbm, 520, rfl⟩
abbrev main_while0b_call1_call0_call0_v150 : Ref sig .tc := ⟨.hbm, 521, rfl⟩
abbrev main_while0b_call1_call0_call0_v151 : Ref sig .tc := ⟨.hbm, 522, rfl⟩
abbrev main_while0b_call1_call0_call0_c_39 : Ref sig .tc := ⟨.hbm, 523, rfl⟩
abbrev main_while0b_call1_call0_call0_v152 : Ref sig .tc := ⟨.hbm, 524, rfl⟩
abbrev main_while0b_call1_call0_call0_v153 : Ref sig .tc := ⟨.hbm, 525, rfl⟩
abbrev main_while0b_call1_call0_call0_v154 : Ref sig .tc := ⟨.hbm, 526, rfl⟩
abbrev main_while0b_call1_call0_call0_v155 : Ref sig .tc := ⟨.hbm, 527, rfl⟩
abbrev main_while0b_call1_call0_call0_v156 : Ref sig .tc := ⟨.hbm, 528, rfl⟩
abbrev main_while0b_call1_call0_call0_c_40 : Ref sig .tc := ⟨.hbm, 529, rfl⟩
abbrev main_while0b_call1_call0_call0_v157 : Ref sig .tc := ⟨.hbm, 530, rfl⟩
abbrev main_while0b_call1_call0_call0_v158 : Ref sig .tc := ⟨.hbm, 531, rfl⟩
abbrev main_while0b_call1_call0_call0_c_41 : Ref sig .tc := ⟨.hbm, 532, rfl⟩
abbrev main_while0b_call1_call0_call0_v159 : Ref sig .tc := ⟨.hbm, 533, rfl⟩
abbrev main_while0b_call1_call0_call0_v160 : Ref sig .tc := ⟨.hbm, 534, rfl⟩
abbrev main_while0b_call1_call0_call0_v161 : Ref sig .tc := ⟨.hbm, 535, rfl⟩
abbrev main_while0b_call1_call0_call0_v162 : Ref sig .tc := ⟨.hbm, 536, rfl⟩
abbrev main_while0b_call1_call0_call0_v163 : Ref sig .tc := ⟨.hbm, 537, rfl⟩
abbrev main_while0b_call1_call0_call0_c_42 : Ref sig .tc := ⟨.hbm, 538, rfl⟩
abbrev main_while0b_call1_call0_call0_v164 : Ref sig .tc := ⟨.hbm, 539, rfl⟩
abbrev main_while0b_call1_call0_call0_v165 : Ref sig .tc := ⟨.hbm, 540, rfl⟩
abbrev main_while0b_call1_call0_call0_c_43 : Ref sig .tc := ⟨.hbm, 541, rfl⟩
abbrev main_while0b_call1_call0_call0_v166 : Ref sig .tc := ⟨.hbm, 542, rfl⟩
abbrev main_while0b_call1_call0_call0_v167 : Ref sig .tc := ⟨.hbm, 543, rfl⟩
abbrev main_while0b_call1_call0_call0_v168 : Ref sig .tc := ⟨.hbm, 544, rfl⟩
abbrev main_while0b_call1_call0_call0_v169 : Ref sig .tc := ⟨.hbm, 545, rfl⟩
abbrev main_while0b_call1_call0_call0_v170 : Ref sig .tc := ⟨.hbm, 546, rfl⟩
abbrev main_while0b_call1_call0_v18_0 : Ref sig .tc := ⟨.hbm, 547, rfl⟩
abbrev main_while0b_call1_call0_call0_v172 : Ref sig .tc := ⟨.hbm, 548, rfl⟩
abbrev main_while0b_call1_call0_call0_v173 : Ref sig .tc := ⟨.hbm, 549, rfl⟩
abbrev main_while0b_call1_call0_call0_c_44 : Ref sig .tc := ⟨.hbm, 550, rfl⟩
abbrev main_while0b_call1_call0_call0_v174 : Ref sig .tc := ⟨.hbm, 551, rfl⟩
abbrev main_while0b_call1_call0_v18_1 : Ref sig .tc := ⟨.hbm, 552, rfl⟩
abbrev main_while0b_call1_call0_v19 : Ref sig .tc := ⟨.hbm, 553, rfl⟩
abbrev main_while0b_call1_call0_c_2 : Ref sig .tc := ⟨.hbm, 554, rfl⟩
abbrev main_while0b_call1_call0_v20 : Ref sig .tc := ⟨.hbm, 555, rfl⟩
abbrev main_while0b_call1_call0_v21 : Ref sig .tc := ⟨.hbm, 556, rfl⟩
abbrev main_while0b_call1_call0_c_3 : Ref sig .tc := ⟨.hbm, 557, rfl⟩
abbrev main_while0b_call1_call0_v22 : Ref sig .tc := ⟨.hbm, 558, rfl⟩
abbrev main_while0b_call1_call0_v23 : Ref sig .tc := ⟨.hbm, 559, rfl⟩
abbrev main_while0b_call1_call0_v24 : Ref sig .tc := ⟨.hbm, 560, rfl⟩
abbrev main_while0b_call1_call0_cst : Ref sig .tc := ⟨.hbm, 561, rfl⟩
abbrev main_while0b_call1_call0_v25 : Ref sig .tc := ⟨.hbm, 562, rfl⟩
abbrev main_while0b_call1_call0_v26 : Ref sig .tc := ⟨.hbm, 563, rfl⟩
abbrev main_while0b_call1_call0_v27 : Ref sig .tc := ⟨.hbm, 564, rfl⟩
abbrev main_while0b_call1_call0_v28 : Ref sig .tc := ⟨.hbm, 565, rfl⟩
abbrev main_while0b_call1_call0_v29 : Ref sig .tc := ⟨.hbm, 566, rfl⟩
abbrev main_while0b_call1_call0_v30 : Ref sig .tc := ⟨.hbm, 567, rfl⟩
abbrev main_while0b_call1_call0_v31 : Ref sig .tc := ⟨.hbm, 568, rfl⟩
abbrev main_while0b_call1_call0_v32 : Ref sig .tc := ⟨.hbm, 569, rfl⟩
abbrev main_while0b_call1_v0 : Ref sig .tc := ⟨.hbm, 570, rfl⟩
abbrev main_while0b_call1_v1 : Ref sig .tc := ⟨.hbm, 571, rfl⟩
abbrev main_while0b_call1_v2 : Ref sig .tc := ⟨.hbm, 572, rfl⟩
abbrev main_while0b_call1_v3 : Ref sig .tc := ⟨.hbm, 573, rfl⟩
abbrev main_while0b_v51 : Ref sig .tc := ⟨.hbm, 574, rfl⟩
abbrev main_while0b_v52 : Ref sig .tc := ⟨.hbm, 575, rfl⟩
abbrev main_while0b_call2_v0 : Ref sig .tc := ⟨.hbm, 576, rfl⟩
abbrev main_while0b_call2_cst : Ref sig .tc := ⟨.hbm, 577, rfl⟩
abbrev main_while0b_call2_c : Ref sig .tc := ⟨.hbm, 578, rfl⟩
abbrev main_while0b_call2_v1_0 : Ref sig .tc := ⟨.hbm, 579, rfl⟩
abbrev main_while0b_v53 : Ref sig .tc := ⟨.hbm, 580, rfl⟩
abbrev main_while0b_v54 : Ref sig .tc := ⟨.hbm, 581, rfl⟩
abbrev main_while0b_call3_c : Ref sig .tc := ⟨.hbm, 582, rfl⟩
abbrev main_while0b_call3_v0 : Ref sig .tc := ⟨.hbm, 583, rfl⟩
abbrev main_while0b_call3_v1 : Ref sig .tc := ⟨.hbm, 584, rfl⟩
abbrev main_while0b_call3_c_0 : Ref sig .tc := ⟨.hbm, 585, rfl⟩
abbrev main_while0b_call3_v2 : Ref sig .tc := ⟨.hbm, 586, rfl⟩
abbrev main_while0b_call3_v3 : Ref sig .tc := ⟨.hbm, 587, rfl⟩
abbrev main_while0b_call3_v4 : Ref sig .tc := ⟨.hbm, 588, rfl⟩
abbrev main_while0b_call3_v5 : Ref sig .tc := ⟨.hbm, 589, rfl⟩
abbrev main_while0b_call3_c_1 : Ref sig .tc := ⟨.hbm, 590, rfl⟩
abbrev main_while0b_call3_c_2 : Ref sig .tc := ⟨.hbm, 591, rfl⟩
abbrev main_while0b_call3_v6 : Ref sig .tc := ⟨.hbm, 592, rfl⟩
abbrev main_while0b_call3_v7 : Ref sig .tc := ⟨.hbm, 593, rfl⟩
abbrev main_while0b_call3_v8 : Ref sig .tc := ⟨.hbm, 594, rfl⟩
abbrev main_while0b_call3_v9 : Ref sig .tc := ⟨.hbm, 595, rfl⟩
abbrev main_while0b_call3_v10 : Ref sig .tc := ⟨.hbm, 596, rfl⟩
abbrev main_while0b_call3_v11 : Ref sig .tc := ⟨.hbm, 597, rfl⟩
abbrev main_while0b_call3_c_3 : Ref sig .tc := ⟨.hbm, 598, rfl⟩
abbrev main_while0b_call3_v12 : Ref sig .tc := ⟨.hbm, 599, rfl⟩
abbrev main_while0b_call3_v13 : Ref sig .tc := ⟨.hbm, 600, rfl⟩
abbrev main_while0b_call3_cst : Ref sig .tc := ⟨.hbm, 601, rfl⟩
abbrev main_while0b_call3_v14 : Ref sig .tc := ⟨.hbm, 602, rfl⟩
abbrev main_while0b_v55 : Ref sig .tc := ⟨.hbm, 603, rfl⟩
abbrev main_while0b_v56 : Ref sig .tc := ⟨.hbm, 604, rfl⟩
abbrev main_while0b_call4_v0 : Ref sig .tc := ⟨.hbm, 605, rfl⟩
abbrev main_while0b_call4_c : Ref sig .tc := ⟨.hbm, 606, rfl⟩
abbrev main_while0b_v57 : Ref sig .tc := ⟨.hbm, 607, rfl⟩
abbrev main_while0b_call5_v0 : Ref sig .tc := ⟨.hbm, 608, rfl⟩
abbrev main_while0b_call5_c : Ref sig .tc := ⟨.hbm, 609, rfl⟩
abbrev main_while0b_v58 : Ref sig .tc := ⟨.hbm, 610, rfl⟩
abbrev main_while0b_c_16 : Ref sig .tc := ⟨.hbm, 611, rfl⟩
abbrev main_while0b_v59 : Ref sig .tc := ⟨.hbm, 612, rfl⟩
abbrev main_v42 : Ref sig .tc := ⟨.hbm, 613, rfl⟩
abbrev main_v43 : Ref sig .tc := ⟨.hbm, 614, rfl⟩
abbrev main_v44 : Ref sig .tc := ⟨.hbm, 615, rfl⟩
abbrev main_v45 : Ref sig .tc := ⟨.hbm, 616, rfl⟩

abbrev nD : Nat := 1
abbrev τ : Topo := Topo.v7x

variable {F : FTy → Type} [FloatOps F]

abbrev main_while0_count : Scf.Loop 32 := ⟨0#32, 32#32, 1#32⟩
-- ==== Proof.Draw.lean ====
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-! ## The random words as vector operations -/

/-- One round of the mixing: add, rotate the second word, exclusive or. -/
def mix (S : Shape) (a b : BitVec 32) (p : IVec S 32 × IVec S 32) : IVec S 32 × IVec S 32 :=
  (addi p.1 p.2, xori (ori (shli p.2 (broadcast S a)) (shrui p.2 (broadcast S b))) (addi p.1 p.2))

/-- The injection of two key words and the count of it. -/
def inject (S : Shape) (ka kb n : BitVec 32) (p : IVec S 32 × IVec S 32) : IVec S 32 × IVec S 32 :=
  (addi p.1 (broadcast S ka), addi (addi p.2 (broadcast S kb)) (broadcast S n))

/-- Four rounds with the first set of rotations. -/
def mixA (S : Shape) (p : IVec S 32 × IVec S 32) : IVec S 32 × IVec S 32 :=
  mix S 6#32 26#32 (mix S 26#32 6#32 (mix S 15#32 17#32 (mix S 13#32 19#32 p)))

/-- Four rounds with the second set of rotations. -/
def mixB (S : Shape) (p : IVec S 32 × IVec S 32) : IVec S 32 × IVec S 32 :=
  mix S 24#32 8#32 (mix S 16#32 16#32 (mix S 29#32 3#32 (mix S 17#32 15#32 p)))

/-- The pair of words the twenty rounds give. -/
def words (S : Shape) (k0 k1 : BitVec 32) (p : IVec S 32 × IVec S 32) : IVec S 32 × IVec S 32 :=
  inject S (Scalar.xori (Scalar.xori k0 k1) 466688986#32) k0 5#32 (mixA S
    (inject S k1 (Scalar.xori (Scalar.xori k0 k1) 466688986#32) 4#32 (mixB S
      (inject S k0 k1 3#32 (mixA S
        (inject S (Scalar.xori (Scalar.xori k0 k1) 466688986#32) k0 2#32 (mixB S
          (inject S k1 (Scalar.xori (Scalar.xori k0 k1) 466688986#32) 1#32 (mixA S p)))))))))

/-- The random word of each position. -/
def bitsv (S : Shape) (k0 k1 : BitVec 32) (x : IVec S 32) : IVec S 32 :=
  xori (words S k0 k1 (addi (broadcast S 0#32) (broadcast S k0), addi x (broadcast S k1))).1
    (words S k0 k1 (addi (broadcast S 0#32) (broadcast S k0), addi x (broadcast S k1))).2

/-- The Gumbel noise of a random word. -/
def noisev (S : Shape) (w : IVec S 32) : FVec F S .f32 :=
  subf (broadcast S (Scalar.ofBits .f32 0x00000000#32)) (log (subf (broadcast S (Scalar.ofBits .f32 0x00000000#32))
    (log (maximumf (broadcast S (Scalar.ofBits .f32 0x00800000#32))
      (addf (mulf (addf (bitcastToFloat .f32 (ori (shrui w (broadcast S 9#32)) (broadcast S 1065353216#32)))
          (broadcast S (Scalar.ofBits .f32 0xBF800000#32))) (broadcast S (Named.named κ "width" 0x3F800000#32)))
        (broadcast S (Scalar.ofBits .f32 0x00800000#32)))))))

/-- The largest value of each row. -/
def rowMax (v : FVec F S32x3584 .f32) : FVec F S32x1 .f32 :=
  shapeCast S32x1 (multiReduction .maximumf [1] S32 v 0xFF800000#32 reduces_S32x3584_S32 (.inl rfl) rfl) shapeCasts_S32_S32x1

/-- The first column at which a row's largest value stands. -/
def rowArg (col : IVec S32x3584 32) (v : FVec F S32x3584 .f32) : IVec S32x1 32 :=
  shapeCast S32x1 (multiReductionI .minsi [1] S32
    (select (cmpf .oeq v (broadcastTo S32x3584 (rowMax v) broadcasts_S32x1_S32x3584)) col (broadcast S32x3584 2147483647#32))
    2147483647#32 reduces_S32x3584_S32 rfl) shapeCasts_S32_S32x1

/-- One sample written into its lane. -/
def draw (col : IVec S32x3584 32) (lm : FVec F S32x3584 .f32) (x : IVec S32x3584 32) (ln : IVec S32x16 32)
    (l k0 k1 : BitVec 32) (acc : FVec F S32x16 .f32 × IVec S32x16 32) : FVec F S32x16 .f32 × IVec S32x16 32 :=
  (select (cmpi .eq ln (broadcast S32x16 l)) (broadcastTo S32x16 (shapeCast S32x1 (rowMax (addf lm (noisev S32x3584 (bitsv S32x3584 k0 k1 x)))) shapeCasts_S32x1_S32x1) broadcasts_S32x1_S32x16) acc.1,
   select (cmpi .eq ln (broadcast S32x16 l)) (broadcastTo S32x16 (shapeCast S32x1 (rowArg col (addf lm (noisev S32x3584 (bitsv S32x3584 k0 k1 x)))) shapeCasts_S32x1_S32x1) broadcasts_S32x1_S32x16) acc.2)

/-- A key word at an offset of the table. -/
def keyAt (x2 : Vec F S32x2 .i32) (off : Fin 2 → ℕ) (h : ∀ a, off a + S1x1.size a ≤ S32x2.size a) : BitVec 32 :=
  x2 ((Rect.unit (s := S32x2) off S1x1.size h).toLoadRect.idx (Shape.Idx.first (by show 0 < S1x1.numel; decide)))

/-- One sample of a trip, by its number in the trip. -/
def drawK (col : IVec S32x3584 32) (lm : FVec F S32x3584 .f32) (x : IVec S32x3584 32) (ln : IVec S32x16 32)
    (i : grid0.Coords) (x2 : Vec F S32x2 .i32) (k : Fin k0_t1_loop.trips) (u : Fin 8)
    (acc : FVec F S32x16 .f32 × IVec S32x16 32) : FVec F S32x16 .f32 × IVec S32x16 32 :=
  draw col lm x ln (Scalar.addi (Scalar.muli 8#32 (Scf.iv 0#32 1#32 k.val)) (BitVec.ofNat 32 u.val))
    (keyAt x2 (k0_off1 i k (BitVec.ofNat 32 u.val)) (k0_off1_inb i k u))
    (keyAt x2 (k0_off2 i k (BitVec.ofNat 32 u.val)) (k0_off2_inb i k u)) acc

/-- What a trip of the sampling loop gives. -/
theorem trip1_eq (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32)
    (v3 : Vec F S32x3584 .f32) (v23 : IVec S32x16 32) (X : BufTy.Contents (Elt F) arg2.view.ty) (k : Fin k0_t1_loop.trips)
    (acc : FVec F S32x16 .f32 × IVec S32x16 32) :
    tripR_k0_t1 Variants.none c none i arg2 harg2 arg3 harg3 arg4 harg4 arg5 harg5 arg6 harg6 arg7 harg7 arg8 harg8 arg0 v3 v23 X k acc
      = ([0, 1, 2, 3, 4, 5, 6, 7] : List (Fin 8)).foldl (fun a u => drawK (k0_pay425 i) (k0_pay426 i v3) (k0_pay428 i) v23 i (arg2.view.read (Elt F) X) k u a) acc := by
  sl_kernel_rfl

/-- One token's noise written into its lane. -/
def noiseK (ln : IVec S32x16 32) (i : grid0.Coords) (x : IVec S32x16 32) (x2 : Vec F S32x2 .i32) (h : k0_cond2 i = 1#1) (k : Fin k0_t2_loop.trips)
    (acc : FVec F S32x16 .f32) : FVec F S32x16 .f32 :=
  select (cmpi .eq ln (broadcast S32x16 (Scf.iv 0#32 1#32 k.val)))
    (noisev S32x16 (bitsv S32x16 (keyAt x2 (k0_off3 i k) (k0_off3_inb i k h)) (keyAt x2 (k0_off4 i k) (k0_off4_inb i k h)) x)) acc

theorem trip2_eq (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32)
    (v23 : IVec S32x16 32) (h2 : k0_cond2 i = 1#1) (v46 : Vec F S32x16 .i32)
    (X : BufTy.Contents (Elt F) arg2.view.ty) (k : Fin k0_t2_loop.trips) (acc : FVec F S32x16 .f32) :
   tripR_k0_t2 Variants.none c none i arg2 harg2 arg3 harg3 arg4 harg4 arg5 harg5 arg6 harg6 arg7 harg7 arg8 harg8 arg0 v23 h2 v46 X k acc
     = noiseK v23 i (k0_pay3 v46) (arg2.view.read (Elt F) X) h2 k acc := by
  sl_kernel_rfl

/-- The lane numbers. -/
abbrev lanes : IVec S32x16 32 := iota .tc S32x16 32 [1] iota_S32x16_d1_w32

/-- The chunk's samples after the first trips of the sampling loop. -/
def samples (i : grid0.Coords) (lm : FVec F S32x3584 .f32) (x2 : Vec F S32x2 .i32) : ℕ → FVec F S32x16 .f32 × IVec S32x16 32
  | 0 => (k0_pay429, k0_pay430)
  | n + 1 => if h : n < k0_t1_loop.trips then
      ([0, 1, 2, 3, 4, 5, 6, 7] : List (Fin 8)).foldl (fun a u => drawK (k0_pay425 i) lm (k0_pay428 i) lanes i x2 ⟨n, h⟩ u a) (samples i lm x2 n)
    else samples i lm x2 n

/-- The tokens' noise after the first trips of the loop. -/
def noises (i : grid0.Coords) (x : IVec S32x16 32) (x2 : Vec F S32x2 .i32) (h2 : k0_cond2 i = 1#1) : ℕ → FVec F S32x16 .f32
  | 0 => k0_pay4
  | n + 1 => if h : n < k0_t2_loop.trips then noiseK lanes i x x2 h2 ⟨n, h⟩ (noises i x x2 h2 n) else noises i x x2 h2 n

theorem st1_eq (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32)
    (v3 : Vec F S32x3584 .f32) (X : BufTy.Contents (Elt F) arg2.view.ty) : ∀ n,
    st_k0_t1 Variants.none c none i arg2 harg2 arg3 harg3 arg4 harg4 arg5 harg5 arg6 harg6 arg7 harg7 arg8 harg8 arg0 v3 lanes X (k0_pay429, k0_pay430) n
      = samples i (k0_pay426 i v3) (arg2.view.read (Elt F) X) n
  | 0 => rfl
  | n + 1 => by
    rw [st_k0_t1.eq_2, samples, st1_eq c i arg2 harg2 arg3 harg3 arg4 harg4 arg5 harg5 arg6 harg6 arg7 harg7 arg8 harg8 arg0 v3 X n]
    unfold st_k0_t1Step
    split
    · rw [trip1_eq]
    · rfl

theorem st2_eq (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32)
    (h2 : k0_cond2 i = 1#1) (v46 : Vec F S32x16 .i32) (X : BufTy.Contents (Elt F) arg2.view.ty) : ∀ n,
    st_k0_t2 Variants.none c none i arg2 harg2 arg3 harg3 arg4 harg4 arg5 harg5 arg6 harg6 arg7 harg7 arg8 harg8 arg0 lanes h2 v46 X k0_pay4 n
      = noises i (k0_pay3 v46) (arg2.view.read (Elt F) X) h2 n
  | 0 => rfl
  | n + 1 => by
    rw [st_k0_t2.eq_2, noises, st2_eq c i arg2 harg2 arg3 harg3 arg4 harg4 arg5 harg5 arg6 harg6 arg7 harg7 arg8 harg8 arg0 h2 v46 X n]
    unfold st_k0_t2Step
    split
    · rw [trip2_eq]
    · rfl

/-- What the three carried buffers hold: the running sums, the running row maxima and where those stand. -/
structure Run (F : FTy → Type) where
  sums : Vec F S32x3584 .f32
  top : Vec F S32x16 .f32
  arg : Vec F S32x16 .i32

/-- Before the first chunk of a group. -/
def Run.start : Run F := ⟨k0_pay422, k0_pay423, k0_pay424⟩

/-- One chunk. -/
def Run.next (i : grid0.Coords) (x2 : Vec F S32x2 .i32) (x3 : Vec F S32x3584 .f32) (s : Run F) : Run F :=
  ⟨k0_pay427 i x3 s.sums,
   k0_pay1 (k0_pay434 (samples i (k0_pay426 i x3) x2 k0_t1_loop.trips).1 s.top s.top),
   k0_pay2 (samples i (k0_pay426 i x3) x2 k0_t1_loop.trips).2 (k0_pay433 (samples i (k0_pay426 i x3) x2 k0_t1_loop.trips).1 s.top) s.arg⟩

/-- The tokens of a finished group. -/
def Run.out4 (s : Run F) : Vec F S1x32x16 .i32 := k0_pay6 s.arg

/-- The probabilities of a finished group. -/
def Run.out5 (i : grid0.Coords) (h : k0_cond2 i = 1#1) (x2 : Vec F S32x2 .i32) (s : Run F) : Vec F S1x32x16 .f32 :=
  k0_pay7 s.sums (noises i (k0_pay3 s.arg) x2 h k0_t2_loop.trips) s.top

end Cert.KernelIdeal.Body
-- ==== Proof.Body.lean ====
module

public import proofs.«01_k».proof.Proof.Draw
public import proofs.«01_k».proof.Proof.Gen.KernelIdeal.Points
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The test of the first chunk of a group. -/
def cond1 (i : grid0.Coords) : BitVec 1 :=
  Scalar.cmpi .ne (Scalar.extui (Scalar.cmpi .eq (BitVec.ofNat 32 (i 1).val) 0#32)) 0#32

theorem hz2 : (![0, 0] : Fin 2 → Nat) = fun _ => 0 := funext fun a => by fin_cases a <;> rfl
theorem hz3 : (![0, 0, 0] : Fin 3 → Nat) = fun _ => 0 := funext fun a => by fin_cases a <;> rfl

/-- Reading back a store of the whole shape. -/
theorem read_whole {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, ?_⟩), View.canon_cons_unit_zero h]
  subst h
  show y ∈ (Rect.whole S).set
  rw [Rect.set_whole]; exact Finset.mem_univ y

/-- The sampling loop's result. -/
theorem st1_end (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32) (v3 : Vec F S32x3584 .f32) (x2 : Vec F S32x2 .i32) :
    st_k0_t1 Variants.none c none i arg2 harg2 arg3 harg3 arg4 harg4 arg5 harg5 arg6 harg6 arg7 harg7 arg8 harg8 arg0 v3 (iota .tc S32x16 32 [1] iota_S32x16_d1_w32) (harg2.unread x2) (k0_pay429, k0_pay430)
        (Scf.trips (0#32) (Scalar.addi 0#32 2#32) 1#32)
      = samples i (k0_pay426 i v3) x2 k0_t1_loop.trips :=
  (st1_eq c i arg2 harg2 arg3 harg3 arg4 harg4 arg5 harg5 arg6 harg6 arg7 harg7 arg8 harg8 arg0 v3 (harg2.unread x2) _).trans (by rw [harg2.read_unread])

/-- The noise loop's result. -/
theorem st2_end (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole) (arg0 : BitVec 32) (h2 : k0_cond2 i = 1#1) (v46 : Vec F S32x16 .i32) (x2 : Vec F S32x2 .i32) :
    st_k0_t2 Variants.none c none i arg2 harg2 arg3 harg3 arg4 harg4 arg5 harg5 arg6 harg6 arg7 harg7 arg8 harg8 arg0 (iota .tc S32x16 32 [1] iota_S32x16_d1_w32) h2 v46 (harg2.unread x2) k0_pay4
        (Scf.trips (0#32) (Scalar.addi 0#32 16#32) 1#32)
      = noises i (k0_pay3 v46) x2 h2 k0_t2_loop.trips :=
  (st2_eq c i arg2 harg2 arg3 harg3 arg4 harg4 arg5 harg5 arg6 harg6 arg7 harg7 arg8 harg8 arg0 h2 v46 (harg2.unread x2) _).trans (by rw [harg2.read_unread])

/-- A middle chunk: neither the first nor the last of its group. -/
theorem run_mid (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole)
    (hc1 : ¬ cond1 i = 1#1) (hc2 : ¬ k0_cond2 i = 1#1)
    (x2 : Vec F S32x2 .i32) (x3 : Vec F S32x3584 .f32) (s : Run F) (E : Set ℕ) (K : PUnit → sProp 𝕄) :
    iprop(owns (c : Thread nD τ) arg2 fullShare x2 ∗ owns (c : Thread nD τ) arg3 fullShare x3 ∗ owns (c : Thread nD τ) arg6 fullShare s.sums ∗ owns (c : Thread nD τ) arg7 fullShare s.top ∗ owns (c : Thread nD τ) arg8 fullShare s.arg
        ∗ (iprop(owns (c : Thread nD τ) arg2 fullShare x2 ∗ owns (c : Thread nD τ) arg3 fullShare x3 ∗ owns (c : Thread nD τ) arg6 fullShare (Run.next i x2 x3 s).sums ∗ owns (c : Thread nD τ) arg7 fullShare (Run.next i x2 x3 s).top ∗ owns (c : Thread nD τ) arg8 fullShare (Run.next i x2 x3 s).arg) -∗ K ⟨⟩))
      ⊢ wp frame (wpE (defs₀ (F := F)) Variants.none (c : Thread nD τ) none) E
          (cc0__sampler_kernel (F := F) i arg2 harg2 arg3 harg3 arg4 harg4 arg5 harg5 arg6 harg6 arg7 harg7 arg8 harg8) K := by
  unfold cond1 at hc1
  simp only [cc0__sampler_kernel_eq_skeleton]
  unfold owns
  iintro ⟨⟨%f2, %hf2, H2⟩, ⟨%f3, %hf3, H3⟩, ⟨%f6, %hf6, H6⟩, ⟨%f7, %hf7, H7⟩, ⟨%f8, %hf8, H8⟩, Hk⟩
  obtain rfl := harg2.eq_unread hf2; obtain rfl := harg3.eq_unread hf3; obtain rfl := harg6.eq_unread hf6; obtain rfl := harg7.eq_unread hf7; obtain rfl := harg8.eq_unread hf8
  sl_exec (disch := first | sl_exact hc1 | sl_exact hc2)
  sl_step
  iapply Hk
  isplitl [H2]
  · iexists _; isplitr; swap
    · iexact H2
    ipureintro; exact harg2.read_unread _
  isplitl [H3]
  · iexists _; isplitr; swap
    · iexact H3
    ipureintro; exact harg3.read_unread _
  isplitl [H6]
  · iexists _; isplitr; swap
    · iexact H6
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  isplitl [H7]
  · iexists _; isplitr; swap
    · iexact H7
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  · iexists _; isplitr; swap
    · iexact H8
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]

/-- The first chunk of a group. -/
theorem run_first (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole)
    (hc1 : cond1 i = 1#1) (hc2 : ¬ k0_cond2 i = 1#1)
    (x2 : Vec F S32x2 .i32) (x3 : Vec F S32x3584 .f32) (E : Set ℕ) (K : PUnit → sProp 𝕄) :
    iprop(owns (c : Thread nD τ) arg2 fullShare x2 ∗ owns (c : Thread nD τ) arg3 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg6 fullShare (Run.next i x2 x3 Run.start).sums ∗ owns (c : Thread nD τ) arg7 fullShare (Run.next i x2 x3 Run.start).top ∗ owns (c : Thread nD τ) arg8 fullShare (Run.next i x2 x3 Run.start).arg) -∗ K ⟨⟩))
      ⊢ wp frame (wpE (defs₀ (F := F)) Variants.none (c : Thread nD τ) none) E
          (cc0__sampler_kernel (F := F) i arg2 harg2 arg3 harg3 arg4 harg4 arg5 harg5 arg6 harg6 arg7 harg7 arg8 harg8) K := by
  unfold cond1 at hc1
  simp only [cc0__sampler_kernel_eq_skeleton]
  unfold owns
  iintro ⟨⟨%f2, %hf2, H2⟩, ⟨%f3, %hf3, H3⟩, ⟨%d6, %f6, %hf6, H6⟩, ⟨%d7, %f7, %hf7, H7⟩, ⟨%d8, %f8, %hf8, H8⟩, Hk⟩
  obtain rfl := harg2.eq_unread hf2; obtain rfl := harg3.eq_unread hf3; obtain rfl := harg6.eq_unread hf6; obtain rfl := harg7.eq_unread hf7; obtain rfl := harg8.eq_unread hf8
  sl_exec (disch := first | sl_exact hc1 | sl_exact hc2)
  sl_step
  iapply Hk
  isplitl [H2]
  · iexists _; isplitr; swap
    · iexact H2
    ipureintro; exact harg2.read_unread _
  isplitl [H3]
  · iexists _; isplitr; swap
    · iexact H3
    ipureintro; exact harg3.read_unread _
  isplitl [H6]
  · iexists _; isplitr; swap
    · iexact H6
    ipureintro; sl_unfold_words; refine (read_whole _ _ hz2 _ _ _).trans ?_; simp only [Run.next, Run.start, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  isplitl [H7]
  · iexists _; isplitr; swap
    · iexact H7
    ipureintro; sl_unfold_words; refine (read_whole _ _ hz2 _ _ _).trans ?_; simp only [Run.next, Run.start, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  · iexists _; isplitr; swap
    · iexact H8
    ipureintro; sl_unfold_words; refine (read_whole _ _ hz2 _ _ _).trans ?_; simp only [Run.next, Run.start, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]

/-- The last chunk of a group. -/
theorem run_last (c : Dev nD) (i : grid0.Coords)
    (arg2 : Memref sig .tc .smem S32x2 .i32) (harg2 : arg2.IsWhole) (arg3 : Memref sig .tc .vmem S32x3584 .f32) (harg3 : arg3.IsWhole)
    (arg4 : Memref sig .tc .vmem S1x32x16 .i32) (harg4 : arg4.IsWhole) (arg5 : Memref sig .tc .vmem S1x32x16 .f32) (harg5 : arg5.IsWhole)
    (arg6 : Memref sig .tc .vmem S32x3584 .f32) (harg6 : arg6.IsWhole) (arg7 : Memref sig .tc .vmem S32x16 .f32) (harg7 : arg7.IsWhole)
    (arg8 : Memref sig .tc .vmem S32x16 .i32) (harg8 : arg8.IsWhole)
    (hc1 : ¬ cond1 i = 1#1) (hc2 : k0_cond2 i = 1#1)
    (x2 : Vec F S32x2 .i32) (x3 : Vec F S32x3584 .f32) (s : Run F) (E : Set ℕ) (K : PUnit → sProp 𝕄) :
    iprop(owns (c : Thread nD τ) arg2 fullShare x2 ∗ owns (c : Thread nD τ) arg3 fullShare x3 ∗ owns (c : Thread nD τ) arg6 fullShare s.sums ∗ owns (c : Thread nD τ) arg7 fullShare s.top ∗ owns (c : Thread nD τ) arg8 fullShare s.arg ∗ (∃ d, owns (c : Thread nD τ) arg4 fullShare d) ∗ (∃ d, owns (c : Thread nD τ) arg5 fullShare d)
        ∗ (iprop(owns (c : Thread nD τ) arg2 fullShare x2 ∗ owns (c : Thread nD τ) arg3 fullShare x3 ∗ owns (c : Thread nD τ) arg6 fullShare (Run.next i x2 x3 s).sums ∗ owns (c : Thread nD τ) arg7 fullShare (Run.next i x2 x3 s).top ∗ owns (c : Thread nD τ) arg8 fullShare (Run.next i x2 x3 s).arg ∗ owns (c : Thread nD τ) arg4 fullShare (Run.next i x2 x3 s).out4 ∗ owns (c : Thread nD τ) arg5 fullShare ((Run.next i x2 x3 s).out5 i hc2 x2)) -∗ K ⟨⟩))
      ⊢ wp frame (wpE (defs₀ (F := F)) Variants.none (c : Thread nD τ) none) E
          (cc0__sampler_kernel (F := F) i arg2 harg2 arg3 harg3 arg4 harg4 arg5 harg5 arg6 harg6 arg7 harg7 arg8 harg8) K := by
  unfold cond1 at hc1
  simp only [cc0__sampler_kernel_eq_skeleton]
  unfold owns
  iintro ⟨⟨%f2, %hf2, H2⟩, ⟨%f3, %hf3, H3⟩, ⟨%f6, %hf6, H6⟩, ⟨%f7, %hf7, H7⟩, ⟨%f8, %hf8, H8⟩, ⟨%d4, %f4, %hf4, H4⟩, ⟨%d5, %f5, %hf5, H5⟩, Hk⟩
  obtain rfl := harg2.eq_unread hf2; obtain rfl := harg3.eq_unread hf3; obtain rfl := harg6.eq_unread hf6; obtain rfl := harg7.eq_unread hf7; obtain rfl := harg8.eq_unread hf8; obtain rfl := harg4.eq_unread hf4; obtain rfl := harg5.eq_unread hf5
  sl_exec (disch := first | sl_exact hc1 | sl_exact hc2)
  sl_step
  iapply Hk
  isplitl [H2]
  · iexists _; isplitr; swap
    · iexact H2
    ipureintro; exact harg2.read_unread _
  isplitl [H3]
  · iexists _; isplitr; swap
    · iexact H3
    ipureintro; exact harg3.read_unread _
  isplitl [H6]
  · iexists _; isplitr; swap
    · iexact H6
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  isplitl [H7]
  · iexists _; isplitr; swap
    · iexact H7
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  isplitl [H8]
  · iexists _; isplitr; swap
    · iexact H8
    ipureintro; sl_unfold_words; refine (read_whole _ _ hz2 _ _ _).trans ?_; simp only [Run.next, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  isplitl [H4]
  · iexists _; isplitr; swap
    · iexact H4
    ipureintro; sl_unfold_words; refine (read_whole _ _ hz3 _ _ _).trans ?_; simp only [Run.next, Run.out4, Run.out5, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; try rw [st1_end]
  · iexists _; isplitr; swap
    · iexact H5
    ipureintro; sl_unfold_words; refine (read_whole _ _ hz3 _ _ _).trans ?_; simp only [Run.next, Run.out4, Run.out5, View.readAt_eq_ld, View.readCov_unit_zero (S := S32x3584) _ hz2, View.readCov_unit_zero (S := S32x16) _ hz2, harg2.read_unread, harg3.read_unread, harg6.read_unread, harg7.read_unread, harg8.read_unread, View.ld_unit_zero (S := S32x3584) hz2, View.ld_unit_zero (S := S32x16) hz2]; rw [st1_end, st2_end]

end Cert.KernelIdeal.Body
-- ==== Proof.Data.lean ====
module

public import proofs.«01_k».proof.Proof.Body
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## The grid -/

theorem coords_0 : ∀ t : Fin grid0.N, ((grid0.coords t) 0).val = t.val / 28 := by decide +kernel
theorem coords_1 : ∀ t : Fin grid0.N, ((grid0.coords t) 1).val = t.val % 28 := by decide +kernel
theorem first_iff : ∀ t : Fin grid0.N, cond1 (grid0.coords t) = 1#1 ↔ t.val % 28 = 0 := by decide +kernel
theorem last_iff : ∀ t : Fin grid0.N, k0_cond2 (grid0.coords t) = 1#1 ↔ t.val % 28 = 27 := by decide +kernel
theorem width_eq : ∀ t : Fin grid0.N, win0_1.xsize (grid0.coords t) 0 = 32 ∧ win0_1.xsize (grid0.coords t) 1 = min 3584 (100000 - 3584 * (t.val % 28)) := by
  decide +kernel

/-- A column of a chunk, as the kernel counts it. -/
theorem col_toNat (t : Fin grid0.N) (j : S32x3584.Idx) : (k0_pay425 (grid0.coords t) j).toNat = 3584 * (t.val % 28) + (j 1).val := by
  show (iota .tc S32x3584 32 [1] iota_S32x3584_d1_w32 j + BitVec.ofNat 32 ((grid0.coords t) 1).val * 3584#32).toNat = _
  rw [iota_single_apply]
  have h1 : (j 1).val < 3584 := (j 1).isLt
  rw [coords_1]
  have h2 : t.val % 28 < 28 := Nat.mod_lt _ (by decide)
  simp only [BitVec.toNat_add, BitVec.toNat_mul, BitVec.toNat_ofNat]
  omega

/-- The masked logits: the logit inside the vocabulary, the word of minus infinity past it. -/
theorem masked_apply (t : Fin grid0.N) (x : Vec F S32x3584 .f32) (j : S32x3584.Idx) :
    k0_pay426 (grid0.coords t) x j = if 3584 * (t.val % 28) + (j 1).val < 100000 then x j else Scalar.ofBits .f32 0xFF800000#32 := by
  have h1 : (j 1).val < 3584 := (j 1).isLt
  have h2 : t.val % 28 < 28 := Nat.mod_lt _ (by decide)
  have h := col_toNat t j
  show Scalar.select (Scalar.cmpi .slt (k0_pay425 (grid0.coords t) j) 100000#32) (shapeCast S32x3584 x shapeCasts_S32x3584_S32x3584 j) _ = _
  rw [shapeCast_self]
  generalize k0_pay425 (grid0.coords t) j = a at h
  have e : (Scalar.cmpi .slt a 100000#32 = 1#1) ↔ 3584 * (t.val % 28) + (j 1).val < 100000 := by
    rw [← h]
    rw [show Scalar.cmpi .slt a 100000#32 = _ from WordCmp.cmpi_slt_of_lt (x := a) (y := 100000#32) (by omega) (by decide)]
    exact WordCmp.ofBool_decide_eq_one_iff _
  unfold Scalar.select
  by_cases hc : 3584 * (t.val % 28) + (j 1).val < 100000
  · rw [if_pos hc]; exact if_pos (e.mpr hc)
  · rw [if_neg hc]; exact if_neg (fun h => hc (e.mp h))

/-- What lies past the vocabulary in the last chunk's buffer is not read. -/
theorem masked_fill (t : Fin grid0.N) (d d' : win0_1.block.Idx → Elt F .f32) (g : (win0_1.xblock (grid0.coords t)).Idx → Elt F .f32) :
    k0_pay426 (grid0.coords t) (win0_1.fill (grid0.coords t) d g) = k0_pay426 (grid0.coords t) (win0_1.fill (grid0.coords t) d' g) := by
  funext j
  rw [masked_apply, masked_apply]
  split
  · rename_i h
    have hm : win0_1.moved (grid0.coords t) j = true := by
      refine (win0_1.moved_iff _ j).mpr fun a => ?_
      have h1 : (j 1).val < 3584 := (j 1).isLt
      have h0 : (j 0).val < 32 := (j 0).isLt
      obtain ⟨w0, w1⟩ := width_eq t
      match a with
      | ⟨0, _⟩ => exact w0 ▸ h0
      | ⟨1, _⟩ =>
        change (j 1).val < win0_1.xsize (grid0.coords t) 1
        rw [w1]; omega
    unfold Window.fill
    rw [dif_pos hm, dif_pos hm]
  · rfl

theorem next_fill (t : Fin grid0.N) (x2 : Vec F S32x2 .i32) (d d' : win0_1.block.Idx → Elt F .f32)
    (g : (win0_1.xblock (grid0.coords t)).Idx → Elt F .f32) (s : Run F) :
    Run.next (grid0.coords t) x2 (win0_1.fill (grid0.coords t) d g) s = Run.next (grid0.coords t) x2 (win0_1.fill (grid0.coords t) d' g) s := by
  unfold Run.next k0_pay427
  rw [masked_fill t d d' g]

/-! ## The run's states -/

variable (m : (ℓ : Loc nD τ sig) → Buf (Elt F) ℓ) (ρ : Dev nD → PrngReg)

/-- The key table at a point. -/
def keysAt (c : Dev nD) (t : Fin cfg0.N) : Vec F S32x2 .i32 := iblk m c 0 t
/-- The chunk of logits at a point, filled with the zero word past the array's end. -/
def logitsAt (c : Dev nD) (t : Fin cfg0.N) : Vec F S32x3584 .f32 :=
  win0_1.fill (grid0.coords t) (fun _ => Scalar.ofBits .f32 0#32) (iblk m c 1 t)

/-- The carried buffers before a point. -/
def runAt (c : Dev nD) : ℕ → Run F
  | 0 => Run.start
  | n + 1 => if h : n < cfg0.N then
      Run.next (grid0.coords ⟨n, h⟩) (keysAt m c ⟨n, h⟩) (logitsAt m c ⟨n, h⟩) (if n % 28 = 0 then Run.start else runAt c n)
    else runAt c n

theorem runAt_succ (c : Dev nD) (t : Fin cfg0.N) :
    runAt m c (t.val + 1) = Run.next (grid0.coords t) (keysAt m c t) (logitsAt m c t) (if t.val % 28 = 0 then Run.start else runAt m c t.val) := by
  rw [runAt, dif_pos t.isLt]

/-- What stands between two points: the carried buffers, whatever they hold between groups. -/
def inv (c : Dev nD) (n : ℕ) : sProp 𝕄 :=
  if n % 28 = 0 then Pipeline.ΦA (U := UR sig nD τ) (Val := Elt F) spec0 c
  else iprop((owns (c : Thread nD τ) (Memref.whole cc0_scratch0) fullShare (runAt m c n).sums
      ∗ owns (c : Thread nD τ) (Memref.whole cc0_scratch1) fullShare (runAt m c n).top
      ∗ owns (c : Thread nD τ) (Memref.whole cc0_scratch2) fullShare (runAt m c n).arg) ∗ ∃ r, prngReg c r)

/-- The tokens a group's last point stores. -/
def tokAt (c : Dev nD) (t : Fin cfg0.N) : Vec F S1x32x16 .i32 := (runAt m c (t.val + 1)).out4
/-- The probabilities a group's last point stores. -/
def probAt (c : Dev nD) (t : Fin cfg0.N) : Vec F S1x32x16 .f32 :=
  if h : k0_cond2 (grid0.coords t) = 1#1 then (runAt m c (t.val + 1)).out5 (grid0.coords t) h (keysAt m c t)
  else fun _ => Scalar.ofBits .f32 0#32

/-- The proof data. -/
def dats (_ : Fin 1) (c : Dev nD) : Dat τ (Elt F) Unit ℕ (UR sig nD τ) ℕ cfg0 c where
  A w := V m c (Pipeline.arrRef spec0 w)
  after w t := match w with
    | ⟨0, _⟩ => keysAt m c t
    | ⟨1, _⟩ => logitsAt m c t
    | ⟨2, _⟩ => tokAt m c t
    | ⟨3, _⟩ => probAt m c t
  Φ t := inv m c t.val
  q _ := fullShare
  owed _ := 0

theorem before_0 (c : Dev nD) (t : Fin cfg0.N) (d) : (dats m 0 c).before 0 t d = keysAt m c t :=
  before0_0_of m (dats m 0 c) rfl (fun _ => rfl) t d
theorem before_1 (c : Dev nD) (t : Fin cfg0.N) (d) :
    (dats m 0 c).before 1 t d = win0_1.fill (grid0.coords t) d (iblk m c 1 t) := by
  unfold Dat.before; rw [if_pos (fetch0_1 t)]; rfl

theorem scratch_whole (c : Dev nD) : Pipeline.ΦA (U := UR sig nD τ) (Val := Elt F) spec0 c
    ⊢ (iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ ∃ r, prngReg c r) : sProp 𝕄) := by
  unfold Pipeline.ΦA
  rw [scopedRest0_eq]
  iintro ⟨⟨⟨%f0, H0⟩, ⟨%f1, H1⟩, ⟨%f2, H2⟩⟩, Hr⟩
  isplitr [Hr]
  · isplitl [H0]
    · iexists f0; rw [owns_whole]; iexact H0
    isplitl [H1]
    · iexists f1; rw [owns_whole]; iexact H1
    · iexists f2; rw [owns_whole]; iexact H2
  · iexact Hr

theorem whole_scratch (c : Dev nD) (s : Run F) :
    (iprop((owns (c : Thread nD τ) (Memref.whole cc0_scratch0) fullShare s.sums ∗ owns (c : Thread nD τ) (Memref.whole cc0_scratch1) fullShare s.top
      ∗ owns (c : Thread nD τ) (Memref.whole cc0_scratch2) fullShare s.arg) ∗ ∃ r, prngReg c r) : sProp 𝕄)
    ⊢ Pipeline.ΦA (U := UR sig nD τ) (Val := Elt F) spec0 c := by
  unfold Pipeline.ΦA
  rw [scopedRest0_eq, owns_whole, owns_whole, owns_whole]
  iintro ⟨⟨H0, H1, H2⟩, Hr⟩
  isplitr [Hr]
  · isplitl [H0]
    · iexists s.sums; iexact H0
    isplitl [H1]
    · iexists s.top; iexact H1
    · iexists s.arg; iexact H2
  · iexact Hr

theorem idle_iff (t : Fin cfg0.N) : (!(k0_cond2 (grid0.coords t) == 1#1)) = true ↔ ¬ t.val % 28 = 27 := by
  rw [← last_iff t]
  simp

theorem prob_eq (c : Dev nD) (t : Fin cfg0.N) (h : k0_cond2 (grid0.coords t) = 1#1) :
    probAt m c t = (runAt m c (t.val + 1)).out5 (grid0.coords t) h (keysAt m c t) := by
  unfold probAt; rw [dif_pos h]

theorem body_obligation (c : Dev nD) : BodyObligationLoose (dats m 0 c) (defs₀ (F := F)) Variants.none () Set.univ := fun t => by
  rw [bigSep_W0, bigSep_W0]
  simp only
  rw [show (dats m 0 c).Φ t.castSucc = inv m c t.val from rfl, show (dats m 0 c).Φ t.succ = inv m c (t.val + 1) from rfl,
    show (dats m 0 c).owesAt () t.succ = (dats m 0 c).owesAt () t.castSucc from rfl]
  have hlt : t.val < 56 := t.isLt
  -- a point that is not the last of its group leaves the results' buffers as it found them
  by_cases h27 : t.val % 28 = 27
  · have h0 : ¬ t.val % 28 = 0 := by omega
    have hc1 : ¬ cond1 (grid0.coords t) = 1#1 := fun h => h0 ((first_iff t).mp h)
    have hc2 : k0_cond2 (grid0.coords t) = 1#1 := (last_iff t).mpr h27
    have hi : idle0 2 (grid0.coords t) = false := by rw [← Bool.not_eq_true]; exact fun h => (idle_iff t).mp h h27
    have hi3 : idle0 3 (grid0.coords t) = false := hi
    have hs := runAt_succ m c t
    rw [if_neg h0] at hs
    simp only [hi, hi3]
    rw [inv, if_neg h0, inv, if_pos (show (t.val + 1) % 28 = 0 by omega)]
    iintro ⟨⟨⟨H6, H7, H8⟩, Hr⟩, Ho, ⟨%d0, H0⟩, ⟨%d1, H1⟩, ⟨%d2, H2⟩, ⟨%d3, H3⟩⟩
    rw [before_0 m c t d0, before_1 m c t d1]
    iapply (run_last (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      hc1 hc2 (keysAt m c t) (win0_1.fill (grid0.coords t) d1 (iblk m c 1 t)) (runAt m c t.val) Set.univ _)
    rw [next_fill t (keysAt m c t) d1 (fun _ => Scalar.ofBits .f32 0#32) (iblk m c 1 t), ← logitsAt, ← hs]
    isplitl [H0]; · iexact H0
    isplitl [H1]; · iexact H1
    isplitl [H6]; · iexact H6
    isplitl [H7]; · iexact H7
    isplitl [H8]; · iexact H8
    isplitl [H2]; · iexists _; iexact H2
    isplitl [H3]; · iexists _; iexact H3
    iintro ⟨H0, H1, H6, H7, H8, H2, H3⟩
    isplitl [H6 H7 H8 Hr]
    · iapply (whole_scratch (F := F) c (runAt m c (t.val + 1)))
      isplitr [Hr]
      · isplitl [H6]; · iexact H6
        isplitl [H7]; · iexact H7
        iexact H8
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) (win0_1.fill (grid0.coords t) _ (iblk m c 1 t))))
      rw [win0_1.cut_fill]
    isplitl [H2]; · iexact H2
    rw [← prob_eq m c t hc2]
    iexact H3
  · have hc2 : ¬ k0_cond2 (grid0.coords t) = 1#1 := fun h => h27 ((last_iff t).mp h)
    have hi : idle0 2 (grid0.coords t) = true := (idle_iff t).mpr h27
    have hi3 : idle0 3 (grid0.coords t) = true := (idle_iff t).mpr h27
    have hf2 : (cfg0.win 2).flush t = false := by rw [← Bool.not_eq_true, flush0_2]; exact h27
    have hf3 : (cfg0.win 3).flush t = false := by rw [← Bool.not_eq_true, flush0_3]; exact h27
    simp only [hi, hi3, hf2, hf3]
    have hn : ¬ (t.val + 1) % 28 = 0 := by omega
    have hs := runAt_succ m c t
    by_cases h0 : t.val % 28 = 0
    · have hc1 : cond1 (grid0.coords t) = 1#1 := (first_iff t).mpr h0
      rw [if_pos h0] at hs
      rw [inv, if_pos h0, inv, if_neg hn]
      iintro ⟨HΦ, Ho, ⟨%d0, H0⟩, ⟨%d1, H1⟩, H2, H3⟩
      ihave HΦ := (scratch_whole (F := F) c) $$ HΦ
      icases HΦ with ⟨⟨H6, H7, H8⟩, Hr⟩
      rw [before_0 m c t d0, before_1 m c t d1]
      iapply (run_first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
        hc1 hc2 (keysAt m c t) (win0_1.fill (grid0.coords t) d1 (iblk m c 1 t)) Set.univ _)
      rw [next_fill t (keysAt m c t) d1 (fun _ => Scalar.ofBits .f32 0#32) (iblk m c 1 t), ← logitsAt, ← hs]
      isplitl [H0]; · iexact H0
      isplitl [H1]; · iexact H1
      isplitl [H6]; · iexact H6
      isplitl [H7]; · iexact H7
      isplitl [H8]; · iexact H8
      iintro ⟨H0, H1, H6, H7, H8⟩
      isplitl [H6 H7 H8 Hr]
      · isplitr [Hr]
        · isplitl [H6]; · iexact H6
          isplitl [H7]; · iexact H7
          iexact H8
        · iexact Hr
      isplitl [Ho]; · iexact Ho
      isplitl [H0]; · iexact H0
      isplitl [H1]
      · iexists d1
        change _ ⊢ owns (c : Thread nD τ) (stage0_1 (cfg0.slots t 1)) fullShare (win0_1.fill (grid0.coords t) d1 (win0_1.cut (grid0.coords t) (win0_1.fill (grid0.coords t) _ (iblk m c 1 t))))
        rw [win0_1.cut_fill]
      isplitl [H2]; · iexact H2
      iexact H3
    · have hc1 : ¬ cond1 (grid0.coords t) = 1#1 := fun h => h0 ((first_iff t).mp h)
      rw [if_neg h0] at hs
      rw [inv, if_neg h0, inv, if_neg hn]
      iintro ⟨⟨⟨H6, H7, H8⟩, Hr⟩, Ho, ⟨%d0, H0⟩, ⟨%d1, H1⟩, H2, H3⟩
      rw [before_0 m c t d0, before_1 m c t d1]
      iapply (run_mid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
        hc1 hc2 (keysAt m c t) (win0_1.fill (grid0.coords t) d1 (iblk m c 1 t)) (runAt m c t.val) Set.univ _)
      rw [next_fill t (keysAt m c t) d1 (fun _ => Scalar.ofBits .f32 0#32) (iblk m c 1 t), ← logitsAt, ← hs]
      isplitl [H0]; · iexact H0
      isplitl [H1]; · iexact H1
      isplitl [H6]; · iexact H6
      isplitl [H7]; · iexact H7
      isplitl [H8]; · iexact H8
      iintro ⟨H0, H1, H6, H7, H8⟩
      isplitl [H6 H7 H8 Hr]
      · isplitr [Hr]
        · isplitl [H6]; · iexact H6
          isplitl [H7]; · iexact H7
          iexact H8
        · iexact Hr
      isplitl [Ho]; · iexact Ho
      isplitl [H0]; · iexact H0
      isplitl [H1]
      · iexists d1
        change _ ⊢ owns (c : Thread nD τ) (stage0_1 (cfg0.slots t 1)) fullShare (win0_1.fill (grid0.coords t) d1 (win0_1.cut (grid0.coords t) (win0_1.fill (grid0.coords t) _ (iblk m c 1 t))))
        rw [win0_1.cut_fill]
      isplitl [H2]; · iexact H2
      iexact H3

/-- The run of the kernel's program: every array ends at the contents the proof data name, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => .rfl) (hout := fun c => .rfl)
    (Q' := fun r => Pipeline.FramePost cfgs (dats m) 0 (Pipeline.afterTail₀ cfgs (dats m) 0 (V0 m) [hostOps1]) r ∧ r.2.sem = fun _ => 0)
    (hQ' := fun _ h => h)

/-- The program leaves its arguments and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c).2 main_arg0 (Pipeline.mem_restRefs_of main_arg0 (by decide) (by decide)) |>.trans (W_main_arg0 m (dats m) c),
     (h.1 c).2 main_arg1 (Pipeline.mem_restRefs_of main_arg1 (by decide) (by decide)) |>.trans (W_main_arg1 m (dats m) c),
     (h.1 c).2 main_arg2 (Pipeline.mem_restRefs_of main_arg2 (by decide) (by decide)) |>.trans (W_main_arg2 m (dats m) c),
     (h.1 c).2 main_arg3 (Pipeline.mem_restRefs_of main_arg3 (by decide) (by decide)) |>.trans (W_main_arg3 m (dats m) c)⟩, h.2⟩) (run_main m ρ)

end Cert.KernelIdeal.Body
-- ==== Proof.Word.lean ====
module

public import proofs.«01_k».proof.Proof.Data
public import proofs.«01_k».proof.Proof.Gen.Kernel.Frame

@[expose] public section

set_option maxRecDepth 16384

noncomputable section

namespace Cert.Kernel.Body

open Cert.Kernel
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- Where no value is named, a named constant is its own word. -/
local instance unnamed : Named F where
  named _ _ {φ} b := FloatOps.ofBits φ b

theorem main_eq : (main (F := F) : Dev nD → Prog _ PUnit) = Cert.KernelIdeal.main (F := F) := by
  sl_kernel_rfl

theorem defs_eq : (defs (F := F)) = Cert.KernelIdeal.defs (F := F) := by
  sl_kernel_rfl

/-- The printed program leaves its arguments and ends with every counter at zero: it is the ideal one's text. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  rw [main_eq, defs_eq]
  exact Cert.KernelIdeal.Body.frame m ρ

end Cert.Kernel.Body
-- ==== Proof.RefFrame.lean ====
module

public import proofs.«01_k».proof.Proof.Gen.ReferenceIdeal.Run

@[expose] public section

set_option maxRecDepth 16384

noncomputable section

namespace Cert.ReferenceIdeal.Value

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- A reference that no host operation of the loop's body or condition writes. -/
def Untouched (b : Ref sig .tc) : Prop :=
  b ∉ condOps_W ∧ b ∉ while0Ops0_W ∧ b ∉ while0Ops0_1_W ∧ b ∉ while0Ops0_2_W ∧ b ∉ while0Ops0_3_W ∧ b ∉ while0Ops0_4_W ∧ b ∉ while0Ops0_5_W
    ∧ b ∉ while0Ops0_6_W ∧ b ∉ while0Ops0_7_W ∧ b ∉ while0Ops0_8_W ∧ b ∉ while0Ops0_9_W ∧ b ∉ while0Ops0_10_W

instance (b : Ref sig .tc) : Decidable (Untouched b) := by unfold Untouched; infer_instance

/-- What no trip writes stays what it was at the loop's entry. -/
theorem atK_untouched (b : Ref sig .tc) (hb : Untouched b) (c : Dev nD) (k : ℕ) :
    atK m k c (Proc.devRef .tc b) = entryContents preI m c (Proc.devRef .tc b) := by
  obtain ⟨hc, h0, h1, h2, h3, h4, h5, h6, h7, h8, h9, h10⟩ := hb
  induction k with
  | zero => rfl
  | succ k ih =>
    show afterL bodyI (after condOps (atK m k c)) _ = _
    simp only [afterL_cons, afterL_nil]
    rw [after_of_writes_sub _ _ while0Ops0_10_writes h10, after_of_writes_sub _ _ while0Ops0_9_writes h9, after_of_writes_sub _ _ while0Ops0_8_writes h8,
      after_of_writes_sub _ _ while0Ops0_7_writes h7, after_of_writes_sub _ _ while0Ops0_6_writes h6, after_of_writes_sub _ _ while0Ops0_5_writes h5,
      after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]
    exact ih

/-- What no operation of the program writes ends as launched. -/
theorem final_untouched (b : Ref sig .tc) (hb : Untouched b) (hp : b ∉ hostOps0_W) (hq : b ∉ hostOps0_1_W) (c : Dev nD) :
    finalContents condOps preI bodyI postI 32 m c (Proc.devRef .tc b) = m ((c.tc : Thread nD τ).loc b) := by
  unfold finalContents
  simp only [afterL_cons, afterL_nil]
  rw [after_of_writes_sub _ _ hostOps0_1_writes hq, after_of_writes_sub _ _ condOps_writes hb.1]
  refine (atK_untouched m b hb c 32).trans ?_
  unfold entryContents
  simp only [afterL_cons, afterL_nil]
  rw [after_of_writes_sub _ _ hostOps0_writes hp]

theorem no_sem (s : MemSt nD τ sig (Elt F)) : s.sem = fun _ => 0 := by
  funext g
  rcases g with ⟨t, s⟩
  rcases s with s | s <;> exact s.elim0

/-- Where every buffer ends as the fold says, the arguments end as launched. -/
theorem args_end {r : PUnit × MemSt nD τ sig (Elt F)}
    (h : ∀ (c : Dev nD) (b : Ref sig .tc), (Proc.devRef .tc b : DevRef τ sig).isScoped = false → r.2.mem ((c.tc : Thread nD τ).loc b) = finalContents condOps preI bodyI postI 32 m c (Proc.devRef .tc b)) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c main_arg0 rfl).trans (final_untouched m _ (by decide +kernel) (by decide +kernel) (by decide +kernel) c),
    (h c main_arg1 rfl).trans (final_untouched m _ (by decide +kernel) (by decide +kernel) (by decide +kernel) c),
    (h c main_arg2 rfl).trans (final_untouched m _ (by decide +kernel) (by decide +kernel) (by decide +kernel) c),
    (h c main_arg3 rfl).trans (final_untouched m _ (by decide +kernel) (by decide +kernel) (by decide +kernel) c)⟩

/-- The reference leaves its arguments and ends with every counter at zero: it declares none. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_end m h, no_sem _⟩) (run_fold m ρ)

end Cert.ReferenceIdeal.Value
-- ==== Proof.Words.lean ====
module

public import proofs.«01_k».proof.Proof.Draw

@[expose] public section

set_option maxRecDepth 16384

noncomputable section

namespace Cert.Sampler

open Idealize.ShloMosaic
open Cert.KernelIdeal.Body (mix inject mixA mixB words bitsv)

/-! ## The random words, one position at a time -/

/-- One round of the mixing. -/
def mixS (a b : BitVec 32) (p : BitVec 32 × BitVec 32) : BitVec 32 × BitVec 32 :=
  (p.1 + p.2, (p.1 + p.2) ^^^ ((p.2 <<< a) ||| (p.2 >>> b)))

/-- Two key words and a count added in. -/
def injS (ka kb n : BitVec 32) (p : BitVec 32 × BitVec 32) : BitVec 32 × BitVec 32 :=
  (p.1 + ka, p.2 + kb + n)

def mixAS (p : BitVec 32 × BitVec 32) : BitVec 32 × BitVec 32 :=
  mixS 6#32 26#32 (mixS 26#32 6#32 (mixS 15#32 17#32 (mixS 13#32 19#32 p)))

def mixBS (p : BitVec 32 × BitVec 32) : BitVec 32 × BitVec 32 :=
  mixS 24#32 8#32 (mixS 16#32 16#32 (mixS 29#32 3#32 (mixS 17#32 15#32 p)))

/-- The pair of words that twenty rounds give of a pair of counts. -/
def wordsS (k0 k1 x0 x1 : BitVec 32) : BitVec 32 × BitVec 32 :=
  injS (k0 ^^^ k1 ^^^ 466688986#32) k0 5#32 (mixAS
    (injS k1 (k0 ^^^ k1 ^^^ 466688986#32) 4#32 (mixBS
      (injS k0 k1 3#32 (mixAS
        (injS (k0 ^^^ k1 ^^^ 466688986#32) k0 2#32 (mixBS
          (injS k1 (k0 ^^^ k1 ^^^ 466688986#32) 1#32 (mixAS (x0 + k0, x1 + k1))))))))))

/-- The random word of a position. -/
def bitsS (k0 k1 x : BitVec 32) : BitVec 32 := (wordsS k0 k1 0#32 x).1 ^^^ (wordsS k0 k1 0#32 x).2

/-- A pair of vectors at an index. -/
def at2 {S : Shape} (p : IVec S 32 × IVec S 32) (j : S.Idx) : BitVec 32 × BitVec 32 := (p.1 j, p.2 j)

theorem mix_at (S : Shape) (a b : BitVec 32) (ha : a.toNat < 32) (hb : b.toNat < 32) (p : IVec S 32 × IVec S 32) (j : S.Idx) :
    at2 (mix S a b p) j = mixS a b (at2 p j) := by
  refine Prod.ext rfl ?_
  show (IntOp.shli .vector (p.2 j) a ||| IntOp.shrui .vector (p.2 j) b) ^^^ (p.1 j + p.2 j) = (p.1 j + p.2 j) ^^^ ((p.2 j <<< a) ||| (p.2 j >>> b))
  unfold IntOp.shli IntOp.shrui
  rw [if_pos ha, if_pos hb, BitVec.xor_comm]

theorem inject_at (S : Shape) (ka kb n : BitVec 32) (p : IVec S 32 × IVec S 32) (j : S.Idx) :
    at2 (inject S ka kb n p) j = injS ka kb n (at2 p j) := rfl

theorem mixA_at (S : Shape) (p : IVec S 32 × IVec S 32) (j : S.Idx) : at2 (mixA S p) j = mixAS (at2 p j) := by
  unfold mixA mixAS
  rw [mix_at _ _ _ (by decide) (by decide), mix_at _ _ _ (by decide) (by decide), mix_at _ _ _ (by decide) (by decide), mix_at _ _ _ (by decide) (by decide)]

theorem mixB_at (S : Shape) (p : IVec S 32 × IVec S 32) (j : S.Idx) : at2 (mixB S p) j = mixBS (at2 p j) := by
  unfold mixB mixBS
  rw [mix_at _ _ _ (by decide) (by decide), mix_at _ _ _ (by decide) (by decide), mix_at _ _ _ (by decide) (by decide), mix_at _ _ _ (by decide) (by decide)]

/-- The vector of random words at an index. -/
theorem bitsv_at (S : Shape) (k0 k1 : BitVec 32) (x : IVec S 32) (j : S.Idx) : bitsv S k0 k1 x j = bitsS k0 k1 (x j) := by
  have h : at2 (words S k0 k1 (addi (broadcast S 0#32) (broadcast S k0), addi x (broadcast S k1))) j = wordsS k0 k1 0#32 (x j) := by
    unfold words wordsS
    rw [inject_at, mixA_at, inject_at, mixB_at, inject_at, mixA_at, inject_at, mixB_at, inject_at, mixA_at]
    rfl
  unfold bitsS
  rw [← h]
  rfl

end Cert.Sampler
-- ==== Proof.RefRead.lean ====
module

public import proofs.«01_k».proof.Proof.Words
public import proofs.«01_k».proof.Proof.RefFrame
public import Idealize.ShloMosaic.Lib.ValueIdx
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.ShloMosaic.Tactic
open Idealize.SL Idealize.SL.Sem

variable {F : FTy → Type} [FloatOps F]

open Cert.Sampler

/-- The Gumbel noise of a random word, as the reference spells it. -/
def noiseR (w : BitVec 32) : F .f32 :=
  FloatOps.hostNegf (FloatOps.hostUnary .log (FloatOps.hostNegf (FloatOps.hostUnary .log (FloatOps.maximumf (FloatOps.ofBits .f32 0x00800000#32)
    (FloatOps.addf (FloatOps.mulf (FloatOps.subf (FloatOps.ofBits .f32 ((w >>> 9#32) ||| 1065353216#32)) (FloatOps.ofBits .f32 0x3F800000#32))
        (FloatOps.subf (FloatOps.ofBits .f32 0x3F800000#32) (FloatOps.ofBits .f32 0x00800000#32)))
      (FloatOps.ofBits .f32 0x00800000#32))))))

/-- The flat position of an element, in a double word. -/
def flat (j : S32x100000.Idx) : BitVec 64 := 100000#64 * BitVec.ofNat 64 (j 0).val + 1#64 * BitVec.ofNat 64 (j 1).val

/-- The two words of a pair of counts. -/
def pairS (k0 k1 : BitVec 32) (x : BitVec 64) : BitVec 32 × BitVec 32 := wordsS k0 k1 ((x >>> 32#64).setWidth 32) (x.setWidth 32)

/-- The noise that a trip adds, at an element. -/
theorem gumbel_read (V : Valuation τ sig (Elt F)) (j : S32x100000.Idx) : after while0Ops0_2 V (Proc.devRef .tc main_while0b_v51) j
    = noiseR ((pairS (V (Proc.devRef .tc main_while0b_v50) (ix1 (0 : Fin 2))) (V (Proc.devRef .tc main_while0b_v50) (ix1 (1 : Fin 2))) (flat j)).1
      ^^^ (pairS (V (Proc.devRef .tc main_while0b_v50) (ix1 (0 : Fin 2))) (V (Proc.devRef .tc main_while0b_v50) (ix1 (1 : Fin 2))) (flat j)).2) := by
  after_reads_at
  sl_kernel_rfl

theorem split_read0 (V : Valuation τ sig (Elt F)) (j : S2x1.Idx) : after while0Ops0 V (Proc.devRef .tc main_while0b_call0_v12) j
    = (pairS (V (Proc.devRef .tc main_v41_3) (ix1 (0 : Fin 2))) (V (Proc.devRef .tc main_v41_3) (ix1 (1 : Fin 2))) (1#64 * BitVec.ofNat 64 (j 0).val)).1 := by
  after_reads_at
  sl_kernel_rfl

theorem split_read1 (V : Valuation τ sig (Elt F)) (j : S2x1.Idx) : after while0Ops0 V (Proc.devRef .tc main_while0b_call0_v13) j
    = (pairS (V (Proc.devRef .tc main_v41_3) (ix1 (0 : Fin 2))) (V (Proc.devRef .tc main_v41_3) (ix1 (1 : Fin 2))) (1#64 * BitVec.ofNat 64 (j 0).val)).2 := by
  after_reads_at
  sl_kernel_rfl

end Cert.ReferenceIdeal.Value
-- ==== Proof.Spec.lean ====
module

public import Idealize.ShloMosaic.PureOps.Ideal
public import Idealize.ShloMosaic.PureOps.Reduce
public import Idealize.ShloMosaic.PureOps.Ideal.Laws
public import Idealize.ShloMosaic.Lib.WordCmp

@[expose] public section

set_option maxRecDepth 16384

noncomputable section

namespace Cert.Sampler

open Idealize.ShloMosaic
open scoped BigOperators

/-! ## Folds that choose an extreme -/

/-- What a fold by the larger value gives, whatever the order of the list. -/
theorem foldl_max {α ι : Type} [LinearOrder α] (f : ι → α) : ∀ (L : List ι) (b : α),
    b ≤ L.foldl (fun r i => max r (f i)) b ∧ (∀ i ∈ L, f i ≤ L.foldl (fun r i => max r (f i)) b)
      ∧ (L.foldl (fun r i => max r (f i)) b = b ∨ ∃ i ∈ L, L.foldl (fun r i => max r (f i)) b = f i)
  | [], b => ⟨le_rfl, fun i h => absurd h (by simp), .inl rfl⟩
  | a :: L, b => by
    obtain ⟨h1, h2, h3⟩ := foldl_max f L (max b (f a))
    refine ⟨(le_max_left _ _).trans h1, fun i h => ?_, ?_⟩
    · rcases List.mem_cons.mp h with rfl | h
      · exact (le_max_right _ _).trans h1
      · exact h2 i h
    · rcases h3 with h3 | ⟨i, hi, e⟩
      · rcases max_choice b (f a) with e | e
        · exact .inl (h3.trans e)
        · exact .inr ⟨a, List.mem_cons_self, h3.trans e⟩
      · exact .inr ⟨i, List.mem_cons_of_mem _ hi, e⟩

/-- What a fold by the smaller word gives, words counted below the sign bit. -/
theorem foldl_minsi {ι : Type} (f : ι → BitVec 32) (hf : ∀ i, (f i).toNat < 2 ^ 31) : ∀ (L : List ι) (b : BitVec 32), b.toNat < 2 ^ 31 →
    (∀ i ∈ L, (L.foldl (fun r i => IntOp.minsi r (f i)) b).toNat ≤ (f i).toNat)
      ∧ (L.foldl (fun r i => IntOp.minsi r (f i)) b = b ∨ ∃ i ∈ L, L.foldl (fun r i => IntOp.minsi r (f i)) b = f i)
      ∧ (L.foldl (fun r i => IntOp.minsi r (f i)) b).toNat ≤ b.toNat
  | [], b, _ => ⟨fun i h => absurd h (by simp), .inl rfl, le_rfl⟩
  | a :: L, b, hb => by
    have hm : IntOp.minsi b (f a) = if b.toNat < (f a).toNat then b else f a := by
      unfold IntOp.minsi
      have ha := hf a
      have e1 : b.toInt = b.toNat := by rw [BitVec.toInt_eq_toNat_of_lt (by omega)]
      have e2 : (f a).toInt = (f a).toNat := by rw [BitVec.toInt_eq_toNat_of_lt (by omega)]
      simp only [BitVec.slt, e1, e2, decide_eq_true_eq, Nat.cast_lt]
    have hlt : (IntOp.minsi b (f a)).toNat < 2 ^ 31 := by
      rw [hm]; split
      · exact hb
      · exact hf a
    obtain ⟨h2, h3, h1⟩ := foldl_minsi f hf L (IntOp.minsi b (f a)) hlt
    have hl : (IntOp.minsi b (f a)).toNat ≤ b.toNat ∧ (IntOp.minsi b (f a)).toNat ≤ (f a).toNat := by
      rw [hm]; split <;> omega
    refine ⟨fun i h => ?_, ?_, h1.trans hl.1⟩
    · rcases List.mem_cons.mp h with rfl | h
      · exact h1.trans hl.2
      · exact h2 i h
    · rcases h3 with h3 | ⟨i, hi, e⟩
      · by_cases c : b.toNat < (f a).toNat
        · exact .inl (h3.trans (by rw [hm, if_pos c]))
        · exact .inr ⟨a, List.mem_cons_self, h3.trans (by rw [hm, if_neg c])⟩
      · exact .inr ⟨i, List.mem_cons_of_mem _ hi, e⟩

/-- What a fold gives that keeps the larger value and, of equal values, the smaller place. -/
theorem foldl_first {ι : Type} (step : EReal × BitVec 32 → EReal × BitVec 32 → EReal × BitVec 32)
    (hstep : ∀ a b : EReal × BitVec 32, a.2.toNat < 2 ^ 31 → b.2.toNat < 2 ^ 31 → step a b = if b.1 < a.1 ∨ (a.1 = b.1 ∧ a.2.toNat < b.2.toNat) then a else b)
    (f : ι → EReal × BitVec 32) (hf : ∀ i, (f i).2.toNat < 2 ^ 31) : ∀ (L : List ι) (b : EReal × BitVec 32), b.2.toNat < 2 ^ 31 →
    let r := L.foldl (fun r i => step r (f i)) b
    (b.1 ≤ r.1 ∧ (b.1 = r.1 → r.2.toNat ≤ b.2.toNat)) ∧ (∀ i ∈ L, (f i).1 ≤ r.1 ∧ ((f i).1 = r.1 → r.2.toNat ≤ (f i).2.toNat)) ∧ (r = b ∨ ∃ i ∈ L, r = f i)
  | [], b, _ => ⟨⟨le_rfl, fun _ => le_rfl⟩, fun i h => absurd h (by simp), .inl rfl⟩
  | a :: L, b, hb => by
    intro r
    have hs := hstep b (f a) hb (hf a)
    have hlt : (step b (f a)).2.toNat < 2 ^ 31 := by
      rw [hs]; split
      · exact hb
      · exact hf a
    obtain ⟨⟨h1, h1'⟩, h2, h3⟩ := foldl_first step hstep f hf L (step b (f a)) hlt
    have hr : r = L.foldl (fun r i => step r (f i)) (step b (f a)) := rfl
    rw [← hr] at h1 h1' h2 h3
    clear_value r
    by_cases c : (f a).1 < b.1 ∨ (b.1 = (f a).1 ∧ b.2.toNat < (f a).2.toNat)
    · rw [hs, if_pos c] at h1 h1' h3
      refine ⟨⟨h1, h1'⟩, fun i h => ?_, ?_⟩
      · rcases List.mem_cons.mp h with rfl | h
        · rcases c with c | ⟨c, d⟩
          · exact ⟨c.le.trans h1, fun e => absurd (e ▸ h1) (not_le.mpr c)⟩
          · exact ⟨c ▸ h1, fun e => (h1' (c.trans e)).trans d.le⟩
        · exact h2 i h
      · rcases h3 with h3 | ⟨i, hi, e⟩
        · exact .inl h3
        · exact .inr ⟨i, List.mem_cons_of_mem _ hi, e⟩
    · rw [hs, if_neg c] at h1 h1' h3
      have c1 : b.1 ≤ (f a).1 := not_lt.mp fun h => c (.inl h)
      have c2 : b.1 = (f a).1 → (f a).2.toNat ≤ b.2.toNat := fun e => not_lt.mp fun h => c (.inr ⟨e, h⟩)
      refine ⟨⟨c1.trans h1, fun e => ?_⟩, fun i h => ?_, ?_⟩
      · have e' : b.1 = (f a).1 := le_antisymm c1 (e ▸ h1)
        exact (h1' (e'.symm.trans e)).trans (c2 e')
      · rcases List.mem_cons.mp h with rfl | h
        · exact ⟨h1, h1'⟩
        · exact h2 i h
      · rcases h3 with h3 | ⟨i, hi, e⟩
        · exact .inr ⟨a, List.mem_cons_self, h3⟩
        · exact .inr ⟨i, List.mem_cons_of_mem _ hi, e⟩

/-! ## The first place of a largest value -/

/-- The place is the first of the largest value among the first `n`. -/
def IsTok (n : ℕ) (f : ℕ → EReal) (i : BitVec 32) : Prop :=
  i.toNat < n ∧ (∀ c < n, f c ≤ f i.toNat) ∧ ∀ c < i.toNat, f c < f i.toNat

theorem IsTok.unique {n : ℕ} {f : ℕ → EReal} {i j : BitVec 32} (hi : IsTok n f i) (hj : IsTok n f j) : i = j := by
  apply BitVec.eq_of_toNat_eq
  rcases lt_trichotomy i.toNat j.toNat with h | h | h
  · exact absurd (hi.2.1 _ hj.1) (not_le.mpr (hj.2.2 _ h))
  · exact h
  · exact absurd (hj.2.1 _ hi.1) (not_le.mpr (hi.2.2 _ h))

/-- A running choice over the first `n` values, from minus infinity at place zero. -/
def Running (n : ℕ) (f : ℕ → EReal) (v : EReal) (i : BitVec 32) : Prop :=
  (∀ c < n, f c ≤ v) ∧ (∀ c < i.toNat, f c < v) ∧ ((v = ⊥ ∧ i = 0#32) ∨ (i.toNat < n ∧ f i.toNat = v))

theorem Running.start (f : ℕ → EReal) : Running 0 f ⊥ 0#32 :=
  ⟨fun c h => absurd h (Nat.not_lt_zero _), fun c h => absurd h (Nat.not_lt_zero _), .inl ⟨rfl, rfl⟩⟩

/-- A stretch of values taken in: its own largest replaces the running one where strictly larger. -/
theorem Running.next {n k : ℕ} {f : ℕ → EReal} {v w : EReal} {i j : BitVec 32} (h : Running n f v i)
    (hw : ∀ c, n ≤ c → c < n + k → f c ≤ w) (hj1 : n ≤ j.toNat) (hj2 : j.toNat < n + k) (hj : f j.toNat = w) (hf : ∀ c, n ≤ c → c < j.toNat → f c < w) :
    Running (n + k) f (max v w) (if v < w then j else i) := by
  obtain ⟨h1, h2, h3⟩ := h
  by_cases c : v < w
  · rw [if_pos c, max_eq_right c.le]
    refine ⟨fun d hd => ?_, fun d hd => ?_, .inr ⟨hj2, hj⟩⟩
    · by_cases hn : d < n
      · exact (h1 d hn).trans c.le
      · exact hw d (not_lt.mp hn) hd
    · by_cases hn : d < n
      · exact (h1 d hn).trans_lt c
      · exact hf d (not_lt.mp hn) hd
  · rw [if_neg c, max_eq_left (not_lt.mp c)]
    refine ⟨fun d hd => ?_, h2, ?_⟩
    · by_cases hn : d < n
      · exact h1 d hn
      · exact (hw d (not_lt.mp hn) hd).trans (not_lt.mp c)
    · rcases h3 with h3 | ⟨h3, h4⟩
      · exact .inl h3
      · exact .inr ⟨by omega, h4⟩

/-- At the end, with only minus infinity past the first `m`. -/
theorem Running.tok {n m : ℕ} {f : ℕ → EReal} {v : EReal} {i : BitVec 32} (h : Running n f v i) (hm : 0 < m) (hmn : m ≤ n)
    (hf : ∀ c, m ≤ c → f c = ⊥) : IsTok m f i ∧ f i.toNat = v := by
  obtain ⟨h1, h2, h3⟩ := h
  have hv : f i.toNat = v := by
    rcases h3 with ⟨e, e'⟩ | ⟨_, e⟩
    · rw [e, e']
      exact le_bot_iff.mp (e ▸ h1 0 (by omega))
    · exact e
  refine ⟨⟨?_, fun c hc => hv ▸ h1 c (by omega), fun c hc => hv ▸ h2 c hc⟩, hv⟩
  by_contra hn
  have hb := hf i.toNat (not_lt.mp hn)
  have h0 := h2 0 (by omega)
  rw [← hv, hb] at h0
  exact absurd h0 not_lt_bot

/-! ## The probabilities -/

theorem exp_bot : Ideal.exp ⊥ = 0 := rfl
theorem exp_coe (r : ℝ) : Ideal.exp (r : EReal) = (Real.exp r : EReal) := rfl

theorem coe_sum {ι : Type} [DecidableEq ι] (s : Finset ι) (r : ι → ℝ) : ((∑ c ∈ s, r c : ℝ) : EReal) = ∑ c ∈ s, (r c : EReal) := by
  induction s using Finset.induction_on with
  | empty => rfl
  | insert a s h ih => rw [Finset.sum_insert h, Finset.sum_insert h, EReal.coe_add, ih]

/-- Dividing both by the largest exponential changes no quotient. -/
theorem softmax_shift {ι : Type} [Fintype ι] [DecidableEq ι] (l : ι → EReal) (hl : ∀ c, l c < ⊤) (M : EReal) (hM : ∀ c, l c ≤ M) (hA : M = ⊥ ∨ ∃ c, M = l c) (t : ι) :
    Ideal.div (Ideal.exp (l t - M)) (∑ c, Ideal.exp (l c - M)) = Ideal.div (Ideal.exp (l t)) (∑ c, Ideal.exp (l c)) := by
  by_cases hb : M = ⊥
  · have : ∀ c, l c - M = l c := fun c => by
      have : l c = ⊥ := le_bot_iff.mp (hb ▸ hM c)
      rw [this]; rfl
    simp only [this]
  · obtain ⟨c₀, hc₀⟩ := hA.resolve_left hb
    have ht : M ≠ ⊤ := by rw [hc₀]; exact (hl c₀).ne
    lift M to ℝ using ⟨ht, hb⟩
    let r : ι → ℝ := fun c => (Ideal.exp (l c)).toReal
    have hr : ∀ c, Ideal.exp (l c) = (r c : EReal) ∧ Ideal.exp (l c - (M : EReal)) = ((r c * Real.exp (-M) : ℝ) : EReal) ∧ 0 ≤ r c := fun c => by
      have h := hl c
      show _ = (((Ideal.exp (l c)).toReal : ℝ) : EReal) ∧ _ = (((Ideal.exp (l c)).toReal * Real.exp (-M) : ℝ) : EReal) ∧ 0 ≤ (Ideal.exp (l c)).toReal
      generalize l c = x at h
      induction x with
      | bot => refine ⟨by simp [exp_bot], ?_, by simp [exp_bot]⟩; rw [EReal.bot_sub]; simp [exp_bot]
      | top => exact absurd h (lt_irrefl _)
      | coe y =>
        refine ⟨by simp [exp_coe], ?_, by rw [exp_coe, EReal.toReal_coe]; exact (Real.exp_pos y).le⟩
        rw [← EReal.coe_sub, exp_coe, exp_coe, EReal.toReal_coe, ← Real.exp_add]; rfl
    have s1 : (∑ c, Ideal.exp (l c)) = ((∑ c, r c : ℝ) : EReal) := by
      rw [coe_sum]; exact Finset.sum_congr rfl fun c _ => (hr c).1
    have s2 : (∑ c, Ideal.exp (l c - (M : EReal))) = (((∑ c, r c) * Real.exp (-M) : ℝ) : EReal) := by
      rw [Finset.sum_mul, coe_sum]; exact Finset.sum_congr rfl fun c _ => (hr c).2.1
    have hpos : 0 < ∑ c, r c := by
      refine Finset.sum_pos' (fun c _ => (hr c).2.2) ⟨c₀, Finset.mem_univ _, ?_⟩
      show 0 < (Ideal.exp (l c₀)).toReal
      rw [← hc₀, exp_coe, EReal.toReal_coe]; exact Real.exp_pos M
    rw [s1, s2, (hr t).1, (hr t).2.1]
    have he := Real.exp_pos (-M)
    have n1 : (((∑ c, r c) * Real.exp (-M) : ℝ) : EReal) ≠ 0 := by exact_mod_cast (mul_pos hpos he).ne'
    have n2 : ((∑ c, r c : ℝ) : EReal) ≠ 0 := by exact_mod_cast hpos.ne'
    unfold Ideal.div
    rw [if_neg n1, if_neg n2, ← EReal.coe_inv, ← EReal.coe_inv, ← EReal.coe_mul, ← EReal.coe_mul]
    congr 1
    field_simp

end Cert.Sampler
-- ==== Proof.Noise.lean ====
module

public import proofs.«01_k».proof.Proof.RefRead
public import proofs.«01_k».proof.Proof.Spec

@[expose] public section

set_option maxRecDepth 16384

noncomputable section

namespace Cert.Sampler

open Idealize.ShloMosaic
open Cert.ReferenceIdeal.Value (noiseR)
open Cert.KernelIdeal.Body (noisev bitsv)

/-- The noise of a random word over the extended reals. -/
def noiseS (w : BitVec 32) : EReal := noiseR (F := Ideal) w

theorem one_eq : Ideal.ofBits .f32 0x3F800000#32 = ((1 : ℝ) : EReal) := by simp [Ideal.ofBits, Ideal.ieee, -EReal.coe_mul]; norm_num
theorem negOne_eq : Ideal.ofBits .f32 0xBF800000#32 = ((-1 : ℝ) : EReal) := by simp [Ideal.ofBits, Ideal.ieee, -EReal.coe_mul]; norm_num
theorem tiny_eq : Ideal.ofBits .f32 0x00800000#32 = (((2 : ℝ) ^ (-126 : ℤ) : ℝ) : EReal) := by
  simp [Ideal.ofBits, Ideal.ieee, -EReal.coe_mul]; norm_num
theorem zero_eq : Ideal.ofBits .f32 0x00000000#32 = 0 := by simp [Ideal.ofBits, Ideal.ieee]
theorem bot_eq : Ideal.ofBits .f32 0xFF800000#32 = ⊥ := by simp [Ideal.ofBits, Ideal.ieee]
theorem top_eq : Ideal.ofBits .f32 0x7F800000#32 = ⊤ := by simp [Ideal.ofBits, Ideal.ieee]

/-- The width of the uniform draw, as the kernel names it. -/
theorem width_eq : (Named.named (F := Ideal) Cert.KernelIdeal.κ "width" (φ := .f32) 0x3F800000#32 : EReal) = ((1 - (2 : ℝ) ^ (-126 : ℤ) : ℝ) : EReal) := by
  show (Cert.KernelIdeal.κ "width").getD _ = _
  rw [show Cert.KernelIdeal.κ "width" = some (((85070591730234615865843651857942052863 / 85070591730234615865843651857942052864 : ℝ) : EReal)) from rfl]
  show ((_ : ℝ) : EReal) = _
  congr 1
  norm_num

/-- The kernel's noise is the reference's, index by index. -/
theorem noisev_at (S : Shape) (w : IVec S 32) (j : S.Idx) : noisev (F := Ideal) S w j = noiseS (w j) := by
  show Ideal.ofBits .f32 0x00000000#32 - Ideal.log (Ideal.ofBits .f32 0x00000000#32 - Ideal.log (max (Ideal.ofBits .f32 0x00800000#32)
      ((Ideal.ofBits .f32 (IntOp.shrui .vector (w j) 9#32 ||| 1065353216#32) + Ideal.ofBits .f32 0xBF800000#32)
          * Named.named (F := Ideal) Cert.KernelIdeal.κ "width" (φ := .f32) 0x3F800000#32 + Ideal.ofBits .f32 0x00800000#32)))
    = -(Ideal.log (-(Ideal.log (max (Ideal.ofBits .f32 0x00800000#32)
      ((Ideal.ofBits .f32 ((w j >>> 9#32) ||| 1065353216#32) - Ideal.ofBits .f32 0x3F800000#32)
          * (Ideal.ofBits .f32 0x3F800000#32 - Ideal.ofBits .f32 0x00800000#32) + Ideal.ofBits .f32 0x00800000#32)))))
  rw [width_eq, negOne_eq, one_eq, zero_eq, zero_sub, zero_sub, tiny_eq, ← EReal.coe_sub, sub_eq_add_neg (G := EReal), ← EReal.coe_neg]
  rfl

/-- A random word's fraction bits under the exponent of one are a number from one to below two. -/
theorem uniform_real (w : BitVec 32) : ∃ x : ℝ, Ideal.ofBits .f32 ((w >>> 9#32) ||| 1065353216#32) = (x : EReal) ∧ 1 ≤ x ∧ x < 2 := by
  have hw : (w >>> 9#32).toNat < 2 ^ 23 := by
    rw [BitVec.ushiftRight_eq', BitVec.toNat_ushiftRight]
    have := w.isLt
    show w.toNat >>> 9 < _
    omega
  generalize w >>> 9#32 = a at hw
  have hb : (a ||| 1065353216#32).toNat = 127 * 2 ^ 23 + a.toNat := by
    rw [BitVec.toNat_or, Nat.or_comm]
    have := Nat.shiftLeft_add_eq_or_of_lt hw 127
    rw [Nat.shiftLeft_eq] at this
    exact this.symm
  generalize a ||| 1065353216#32 = b at hb
  have e1 : (b.extractLsb' 31 1 == 1#1) = false := by
    rw [beq_eq_false_iff_ne]
    intro h
    have := congrArg BitVec.toNat h
    rw [BitVec.extractLsb'_toNat, Nat.shiftRight_eq_div_pow, hb] at this
    simp only [BitVec.toNat_ofNat] at this
    omega
  have e2 : (b.extractLsb' 23 8).toNat = 127 := by
    rw [BitVec.extractLsb'_toNat, Nat.shiftRight_eq_div_pow, hb]; omega
  have e3 : (b.extractLsb' 0 23).toNat = a.toNat := by
    rw [BitVec.extractLsb'_toNat, Nat.shiftRight_eq_div_pow, hb]; omega
  refine ⟨1 + (a.toNat : ℝ) / 2 ^ 23, ?_, ?_, ?_⟩
  · show Ideal.ieee 8 23 b = _
    unfold Ideal.ieee
    simp only [Nat.reduceAdd, e1, e2, e3]
    rw [if_neg (by decide), if_neg (by decide)]
    refine congrArg (fun y : ℝ => (y : EReal)) ?_
    norm_num
    ring
  · have : (0 : ℝ) ≤ (a.toNat : ℝ) / 2 ^ 23 := by positivity
    linarith
  · have h : (a.toNat : ℝ) < 2 ^ 23 := by exact_mod_cast hw
    have : (a.toNat : ℝ) / 2 ^ 23 < 1 := by rw [div_lt_one (by positivity)]; exact h
    linarith

theorem log_pos (r : ℝ) (h : 0 < r) : Ideal.log (r : EReal) = (Real.log r : EReal) := if_neg (not_le.mpr h)

/-- The noise is a real number. -/
theorem noiseS_real (w : BitVec 32) : ∃ g : ℝ, noiseS w = (g : EReal) := by
  obtain ⟨x, hx, h1, h2⟩ := uniform_real w
  have ht : (0 : ℝ) < (2 : ℝ) ^ (-126 : ℤ) := by positivity
  have ht1 : (2 : ℝ) ^ (-126 : ℤ) < 1 := by norm_num
  have hn : noiseS w = -(Ideal.log (-(Ideal.log (max (Ideal.ofBits .f32 0x00800000#32)
      ((Ideal.ofBits .f32 ((w >>> 9#32) ||| 1065353216#32) - Ideal.ofBits .f32 0x3F800000#32)
          * (Ideal.ofBits .f32 0x3F800000#32 - Ideal.ofBits .f32 0x00800000#32) + Ideal.ofBits .f32 0x00800000#32))))) := rfl
  rw [hn, hx, one_eq, tiny_eq, ← EReal.coe_sub, ← EReal.coe_sub, ← EReal.coe_mul, ← EReal.coe_add]
  generalize (2 : ℝ) ^ (-126 : ℤ) = t at ht ht1
  have hu : max (t : EReal) (((x - 1) * (1 - t) + t : ℝ) : EReal) = ((max t ((x - 1) * (1 - t) + t) : ℝ) : EReal) := (EReal.coe_strictMono.monotone.map_max).symm
  have hu0 : 0 < max t ((x - 1) * (1 - t) + t) := lt_max_of_lt_left ht
  have hu1 : max t ((x - 1) * (1 - t) + t) < 1 := max_lt ht1 (by nlinarith)
  rw [hu, log_pos _ hu0, ← EReal.coe_neg, log_pos _ (neg_pos.mpr (Real.log_neg hu0 hu1)), ← EReal.coe_neg]
  exact ⟨_, rfl⟩

end Cert.Sampler
-- ==== Proof.Chunk.lean ====
module

public import proofs.«01_k».proof.Proof.Data
public import proofs.«01_k».proof.Proof.Noise
public import Idealize.ShloMosaic.Lib.ValueIdx
public import Idealize.ShloMosaic.Lib.ValueLayoutCasts
public import Idealize.ShloMosaic.Lib.Pointwise.Reduce

@[expose] public section

set_option maxRecDepth 16384

noncomputable section

namespace Cert.KernelIdeal.Body

open Cert.KernelIdeal Cert.KernelIdeal.Gen Cert.Sampler
open Idealize.ShloMosaic Idealize.ShloMosaic.TcCoe Idealize.ShloMosaic.Tactic

/-! ## Rows of a chunk -/

theorem row_iff (r : Fin 32) (i : S32x3584.Idx) :
    reduces_S32x3584_S32.drop i = ix1 r ↔ ∃ c : Fin 3584, ix2 r c = i :=
  Shape.Reduces.fiber_r2_a1 reduces_S32x3584_S32 (ix1 r) i

theorem mem_row (r : Fin 32) (i : S32x3584.Idx) :
    i ∈ ((List.finRange S32x3584.numel).map S32x3584.rowMajor.symm).filter (fun i => reduces_S32x3584_S32.drop i = ix1 r) ↔ ∃ c : Fin 3584, ix2 r c = i := by
  rw [List.mem_filter, decide_eq_true_eq, row_iff]
  refine ⟨fun h => h.2, fun h => ⟨List.mem_map.mpr ⟨S32x3584.rowMajor i, List.mem_finRange _, Equiv.symm_apply_apply _ _⟩, h⟩⟩

/-- A row's largest value is one of its values and no smaller than any. -/
theorem rowMax_spec (v : FVec Ideal S32x3584 .f32) (r : Fin 32) :
    (∀ c : Fin 3584, v (ix2 r c) ≤ rowMax v (ix2 r (0 : Fin 1))) ∧ ∃ c : Fin 3584, rowMax v (ix2 r (0 : Fin 1)) = v (ix2 r c) := by
  have e : rowMax v (ix2 r (0 : Fin 1)) = (((List.finRange S32x3584.numel).map S32x3584.rowMajor.symm).filter
      (fun i => reduces_S32x3584_S32.drop i = ix1 r)).foldl (fun a i => max a (v i)) ⊥ := by
    unfold rowMax
    refine (ValueIdx.shapeCast_a_a1_apply _ _ r 0).trans ?_
    show reduceFold _ (FloatOps.maximumf (F := Ideal)) _ _ _ = _
    rw [reduceFold_eq_foldl, show FloatOps.ofBits (F := Ideal) .f32 0xFF800000#32 = ⊥ from bot_eq]
    rfl
  obtain ⟨h1, h2, h3⟩ := foldl_max v (((List.finRange S32x3584.numel).map S32x3584.rowMajor.symm).filter
      (fun i => reduces_S32x3584_S32.drop i = ix1 r)) ⊥
  rw [← e] at h1 h2 h3
  have h2' : ∀ c : Fin 3584, v (ix2 r c) ≤ rowMax v (ix2 r (0 : Fin 1)) := fun c => h2 _ ((mem_row r _).mpr ⟨c, rfl⟩)
  refine ⟨h2', ?_⟩
  rcases h3 with h3 | ⟨i, hi, h⟩
  · exact ⟨0, h3.trans (le_bot_iff.mp (h3 ▸ h2' 0)).symm⟩
  · obtain ⟨c, rfl⟩ := (mem_row r i).mp hi
    exact ⟨c, h⟩

theorem broadcast_col {α : Type} (n : ℕ) (v : S32x1.Idx → α) (h : S32x1.Broadcasts ⟨2, ![32, n]⟩) (r : Fin 32) (c : Fin n) :
    broadcastTo ⟨2, ![32, n]⟩ v h (ix2 r c) = v (ix2 r (0 : Fin 1)) :=
  broadcastTo_apply v h _ _ fun a => by
    match a with
    | ⟨0, _⟩ => rfl
    | ⟨1, _⟩ => rfl

/-- The first column of a row's largest value. -/
theorem rowArg_spec (col : IVec S32x3584 32) (hcol : ∀ j, (col j).toNat < 2147483647) (v : FVec Ideal S32x3584 .f32) (r : Fin 32) :
    (∃ c : Fin 3584, rowArg col v (ix2 r (0 : Fin 1)) = col (ix2 r c) ∧ v (ix2 r c) = rowMax v (ix2 r (0 : Fin 1)))
      ∧ ∀ c : Fin 3584, v (ix2 r c) = rowMax v (ix2 r (0 : Fin 1)) → (rowArg col v (ix2 r (0 : Fin 1))).toNat ≤ (col (ix2 r c)).toNat := by
  let w : IVec S32x3584 32 := select (cmpf .oeq v (broadcastTo S32x3584 (rowMax v) broadcasts_S32x1_S32x3584)) col (broadcast S32x3584 2147483647#32)
  have hw : ∀ c : Fin 3584, w (ix2 r c) = if v (ix2 r c) = rowMax v (ix2 r (0 : Fin 1)) then col (ix2 r c) else 2147483647#32 := fun c => by
    show Scalar.select (Ideal.cmp .oeq (v (ix2 r c)) (broadcastTo S32x3584 (rowMax v) broadcasts_S32x1_S32x3584 (ix2 r c))) (col (ix2 r c)) 2147483647#32 = _
    rw [show broadcastTo S32x3584 (rowMax v) broadcasts_S32x1_S32x3584 (ix2 r c) = _ from broadcast_col 3584 (rowMax v) _ r c]
    unfold Scalar.select Ideal.cmp
    by_cases h : v (ix2 r c) = rowMax v (ix2 r (0 : Fin 1))
    · rw [if_pos h]; exact if_pos (by simp [h])
    · rw [if_neg h]; exact if_neg (by simp [h])
  have hw31 : ∀ i, (w i).toNat < 2 ^ 31 := fun i => by
    show (Scalar.select _ (col i) 2147483647#32).toNat < _
    unfold Scalar.select
    have := hcol i
    split
    · omega
    · decide
  have e : rowArg col v (ix2 r (0 : Fin 1)) = (((List.finRange S32x3584.numel).map S32x3584.rowMajor.symm).filter
      (fun i => reduces_S32x3584_S32.drop i = ix1 r)).foldl (fun a i => IntOp.minsi a (w i)) 2147483647#32 := by
    unfold rowArg
    refine (ValueIdx.shapeCast_a_a1_apply _ _ r 0).trans ?_
    show reduceFold _ IntOp.minsi _ _ _ = _
    rw [reduceFold_eq_foldl]
    rfl
  obtain ⟨h2, h3, _⟩ := foldl_minsi w hw31 (((List.finRange S32x3584.numel).map S32x3584.rowMajor.symm).filter
      (fun i => reduces_S32x3584_S32.drop i = ix1 r)) 2147483647#32 (by decide)
  rw [← e] at h2 h3
  have h2' : ∀ c : Fin 3584, v (ix2 r c) = rowMax v (ix2 r (0 : Fin 1)) → (rowArg col v (ix2 r (0 : Fin 1))).toNat ≤ (col (ix2 r c)).toNat := fun c hc => by
    have := h2 _ ((mem_row r _).mpr ⟨c, rfl⟩)
    rwa [hw, if_pos hc] at this
  refine ⟨?_, h2'⟩
  obtain ⟨c0, hc0⟩ := (rowMax_spec v r).2
  have hlt : (rowArg col v (ix2 r (0 : Fin 1))).toNat < 2147483647 := (h2' c0 hc0.symm).trans_lt (hcol _)
  rcases h3 with h3 | ⟨i, hi, h⟩
  · rw [h3] at hlt; exact absurd hlt (by decide)
  · obtain ⟨c, rfl⟩ := (mem_row r i).mp hi
    rw [hw] at h
    by_cases hc : v (ix2 r c) = rowMax v (ix2 r (0 : Fin 1))
    · rw [if_pos hc] at h; exact ⟨c, h, hc⟩
    · rw [if_neg hc] at h; rw [h] at hlt; exact absurd hlt (by decide)

/-! ## The keys and the lanes -/

theorem off1_eq : ∀ (t : Fin grid0.N) (k : Fin k0_t1_loop.trips) (u : Fin 8),
    k0_off1 (grid0.coords t) k (BitVec.ofNat 32 u.val) 0 = 16 * (t.val / 28) + (8 * k.val + u.val) ∧ k0_off1 (grid0.coords t) k (BitVec.ofNat 32 u.val) 1 = 0
      ∧ k0_off2 (grid0.coords t) k (BitVec.ofNat 32 u.val) 0 = 16 * (t.val / 28) + (8 * k.val + u.val) ∧ k0_off2 (grid0.coords t) k (BitVec.ofNat 32 u.val) 1 = 1 := by
  decide +kernel

theorem off3_eq : ∀ (t : Fin grid0.N) (k : Fin k0_t2_loop.trips),
    k0_off3 (grid0.coords t) k 0 = 16 * (t.val / 28) + k.val ∧ k0_off3 (grid0.coords t) k 1 = 0
      ∧ k0_off4 (grid0.coords t) k 0 = 16 * (t.val / 28) + k.val ∧ k0_off4 (grid0.coords t) k 1 = 1 := by
  decide +kernel

variable {F : FTy → Type} [FloatOps F] [Named F]

theorem keyAt_eq (x2 : Vec F S32x2 .i32) (off : Fin 2 → ℕ) (h : ∀ a, off a + S1x1.size a ≤ S32x2.size a) (n : Fin 32) (p : Fin 2)
    (h0 : off 0 = n.val) (h1 : off 1 = p.val) : keyAt x2 off h = x2 (ix2 n p) := by
  unfold keyAt
  refine congrArg x2 (funext fun a => Fin.ext ?_)
  match a with
  | ⟨0, _⟩ => show off 0 + _ = n.val; rw [h0]; rfl
  | ⟨1, _⟩ => show off 1 + _ = p.val; rw [h1]; rfl

theorem lane_apply (r : Fin 32) (s : Fin 16) : lanes (ix2 r s) = BitVec.ofNat 32 s.val := by
  unfold lanes
  rw [iota_single_apply]
  rfl

theorem num_eq : ∀ (k : Fin k0_t1_loop.trips) (u : Fin 8),
    Scalar.addi (Scalar.muli 8#32 (Scf.iv 0#32 1#32 k.val)) (BitVec.ofNat 32 u.val) = BitVec.ofNat 32 (8 * k.val + u.val) := by decide +kernel
theorem num_eq' : ∀ (k : Fin k0_t2_loop.trips), Scf.iv 0#32 1#32 k.val = BitVec.ofNat 32 k.val := by decide +kernel

theorem pick {α : Type} (r : Fin 32) (s : Fin 16) (n : ℕ) (hn : n < 16) (a b : α) :
    Scalar.select (Scalar.cmpi .eq (lanes (ix2 r s)) (BitVec.ofNat 32 n)) a b = if s.val = n then a else b := by
  rw [lane_apply]
  have e : (Scalar.cmpi .eq (BitVec.ofNat 32 s.val) (BitVec.ofNat 32 n) = 1#1) ↔ s.val = n := by
    show BitVec.ofBool (BitVec.ofNat 32 s.val == BitVec.ofNat 32 n) = 1#1 ↔ _
    have hs := s.isLt
    constructor
    · intro h
      by_contra hne
      have : (BitVec.ofNat 32 s.val == BitVec.ofNat 32 n) = false := by
        rw [beq_eq_false_iff_ne]; intro h'
        have := congrArg BitVec.toNat h'
        simp only [BitVec.toNat_ofNat] at this
        omega
      rw [this] at h; exact absurd h (by decide)
    · rintro rfl; simp
  unfold Scalar.select
  by_cases h : s.val = n
  · rw [if_pos h]; exact if_pos (e.mpr h)
  · rw [if_neg h]; exact if_neg (fun c => h (e.mp c))

/-- The perturbed logits of a sample. -/
def pert (t : Fin grid0.N) (lm : FVec Ideal S32x3584 .f32) (x2 : Vec Ideal S32x2 .i32) (n : Fin 32) : FVec Ideal S32x3584 .f32 :=
  addf lm (noisev S32x3584 (bitsv S32x3584 (x2 (ix2 n (0 : Fin 2))) (x2 (ix2 n (1 : Fin 2))) (k0_pay428 (grid0.coords t))))

/-- A sample's key's row of the table. -/
def keyRow (t : Fin grid0.N) (s : Fin 16) : Fin 32 := ⟨16 * (t.val / 28) + s.val, by have h := t.isLt; change t.val < 56 at h; have := s.isLt; omega⟩

theorem drawK_at (t : Fin grid0.N) (lm : FVec Ideal S32x3584 .f32) (x2 : Vec Ideal S32x2 .i32) (k : Fin k0_t1_loop.trips) (u : Fin 8)
    (acc : FVec Ideal S32x16 .f32 × IVec S32x16 32) (r : Fin 32) (s : Fin 16) :
    (drawK (k0_pay425 (grid0.coords t)) lm (k0_pay428 (grid0.coords t)) lanes (grid0.coords t) x2 k u acc).1 (ix2 r s)
      = (if s.val = 8 * k.val + u.val then rowMax (pert t lm x2 (keyRow t s)) (ix2 r (0 : Fin 1)) else acc.1 (ix2 r s))
    ∧ (drawK (k0_pay425 (grid0.coords t)) lm (k0_pay428 (grid0.coords t)) lanes (grid0.coords t) x2 k u acc).2 (ix2 r s)
      = (if s.val = 8 * k.val + u.val then rowArg (k0_pay425 (grid0.coords t)) (pert t lm x2 (keyRow t s)) (ix2 r (0 : Fin 1)) else acc.2 (ix2 r s)) := by
  have hk : k.val < 2 := k.isLt
  have hu := u.isLt
  obtain ⟨o1, o2, o3, o4⟩ := off1_eq t k u
  have hs16 : 8 * k.val + u.val < 16 := by omega
  have e0 := keyAt_eq x2 _ (k0_off1_inb (grid0.coords t) k u) (keyRow t ⟨8 * k.val + u.val, hs16⟩) 0 o1 o2
  have e1 := keyAt_eq x2 _ (k0_off2_inb (grid0.coords t) k u) (keyRow t ⟨8 * k.val + u.val, hs16⟩) 1 o3 o4
  unfold drawK
  rw [e0, e1, num_eq]
  unfold draw
  constructor
  · refine (pick r s (8 * k.val + u.val) hs16 (broadcastTo S32x16 _ broadcasts_S32x1_S32x16 (ix2 r s)) _).trans ?_
    by_cases h : s.val = 8 * k.val + u.val
    · rw [if_pos h, if_pos h]
      refine (broadcast_col 16 _ _ r s).trans ?_
      rw [shapeCast_self, show s = ⟨8 * k.val + u.val, hs16⟩ from Fin.ext h]
      rfl
    · rw [if_neg h, if_neg h]
  · refine (pick r s (8 * k.val + u.val) hs16 (broadcastTo S32x16 _ broadcasts_S32x1_S32x16 (ix2 r s)) _).trans ?_
    by_cases h : s.val = 8 * k.val + u.val
    · rw [if_pos h, if_pos h]
      refine (broadcast_col 16 _ _ r s).trans ?_
      rw [shapeCast_self, show s = ⟨8 * k.val + u.val, hs16⟩ from Fin.ext h]
      rfl
    · rw [if_neg h, if_neg h]

/-- The samples of a chunk. -/
theorem samples_at (t : Fin grid0.N) (lm : FVec Ideal S32x3584 .f32) (x2 : Vec Ideal S32x2 .i32) (r : Fin 32) (s : Fin 16) :
    (samples (grid0.coords t) lm x2 k0_t1_loop.trips).1 (ix2 r s) = rowMax (pert t lm x2 (keyRow t s)) (ix2 r (0 : Fin 1))
    ∧ (samples (grid0.coords t) lm x2 k0_t1_loop.trips).2 (ix2 r s) = rowArg (k0_pay425 (grid0.coords t)) (pert t lm x2 (keyRow t s)) (ix2 r (0 : Fin 1)) := by
  have step : ∀ (k : Fin k0_t1_loop.trips) (L : List (Fin 8)) (acc : FVec Ideal S32x16 .f32 × IVec S32x16 32),
      let g := L.foldl (fun a u => drawK (k0_pay425 (grid0.coords t)) lm (k0_pay428 (grid0.coords t)) lanes (grid0.coords t) x2 k u a) acc
      (((∃ u ∈ L, s.val = 8 * k.val + u.val) ∨ (acc.1 (ix2 r s) = rowMax (pert t lm x2 (keyRow t s)) (ix2 r (0 : Fin 1)) ∧ acc.2 (ix2 r s) = rowArg (k0_pay425 (grid0.coords t)) (pert t lm x2 (keyRow t s)) (ix2 r (0 : Fin 1)))) →
        g.1 (ix2 r s) = rowMax (pert t lm x2 (keyRow t s)) (ix2 r (0 : Fin 1)) ∧ g.2 (ix2 r s) = rowArg (k0_pay425 (grid0.coords t)) (pert t lm x2 (keyRow t s)) (ix2 r (0 : Fin 1))) := by
    intro k L
    induction L with
    | nil => intro acc g h; rcases h with ⟨u, hu, _⟩ | h; exact absurd hu (by simp); exact h
    | cons u L ih =>
      intro acc g h
      obtain ⟨d1, d2⟩ := drawK_at t lm x2 k u acc r s
      refine ih _ ?_
      by_cases hs : s.val = 8 * k.val + u.val
      · exact .inr ⟨d1.trans (if_pos hs), d2.trans (if_pos hs)⟩
      · rcases h with ⟨v, hv, h⟩ | h
        · rcases List.mem_cons.mp hv with rfl | hv
          · exact absurd h hs
          · exact .inl ⟨v, hv, h⟩
        · exact .inr ⟨(d1.trans (if_neg hs)).trans h.1, (d2.trans (if_neg hs)).trans h.2⟩
  have hall : ∀ u : Fin 8, u ∈ ([0, 1, 2, 3, 4, 5, 6, 7] : List (Fin 8)) := by decide
  have hs := s.isLt
  show (samples (grid0.coords t) lm x2 2).1 _ = _ ∧ (samples (grid0.coords t) lm x2 2).2 _ = _
  rw [samples, dif_pos (show 1 < k0_t1_loop.trips by decide)]
  by_cases h8 : s.val < 8
  · refine step ⟨1, _⟩ _ _ (.inr ?_)
    rw [samples, dif_pos (show 0 < k0_t1_loop.trips by decide)]
    exact step ⟨0, _⟩ _ _ (.inl ⟨⟨s.val, h8⟩, hall _, by show s.val = 8 * 0 + s.val; omega⟩)
  · exact step ⟨1, _⟩ _ _ (.inl ⟨⟨s.val - 8, by omega⟩, hall _, by show s.val = 8 * 1 + (s.val - 8); omega⟩)

theorem noiseK_at (t : Fin grid0.N) (x : IVec S32x16 32) (x2 : Vec Ideal S32x2 .i32) (h2 : k0_cond2 (grid0.coords t) = 1#1) (k : Fin k0_t2_loop.trips)
    (acc : FVec Ideal S32x16 .f32) (r : Fin 32) (s : Fin 16) :
    noiseK lanes (grid0.coords t) x x2 h2 k acc (ix2 r s)
      = if s.val = k.val then noiseS (bitsS (x2 (ix2 (keyRow t s) (0 : Fin 2))) (x2 (ix2 (keyRow t s) (1 : Fin 2))) (x (ix2 r s))) else acc (ix2 r s) := by
  have hk : k.val < 16 := k.isLt
  obtain ⟨o1, o2, o3, o4⟩ := off3_eq t k
  have e0 := keyAt_eq x2 _ (k0_off3_inb (grid0.coords t) k h2) (keyRow t ⟨k.val, hk⟩) 0 o1 o2
  have e1 := keyAt_eq x2 _ (k0_off4_inb (grid0.coords t) k h2) (keyRow t ⟨k.val, hk⟩) 1 o3 o4
  unfold noiseK
  rw [e0, e1, num_eq']
  refine (pick r s k.val hk _ _).trans ?_
  by_cases h : s.val = k.val
  · rw [if_pos h, if_pos h, noisev_at, bitsv_at, show s = ⟨k.val, hk⟩ from Fin.ext h]
  · rw [if_neg h, if_neg h]

/-- The tokens' noise. -/
theorem noises_at (t : Fin grid0.N) (x : IVec S32x16 32) (x2 : Vec Ideal S32x2 .i32) (h2 : k0_cond2 (grid0.coords t) = 1#1) (r : Fin 32) (s : Fin 16) :
    noises (grid0.coords t) x x2 h2 k0_t2_loop.trips (ix2 r s)
      = noiseS (bitsS (x2 (ix2 (keyRow t s) (0 : Fin 2))) (x2 (ix2 (keyRow t s) (1 : Fin 2))) (x (ix2 r s))) := by
  have step : ∀ n, n ≤ 16 → s.val < n → noises (grid0.coords t) x x2 h2 n (ix2 r s)
      = noiseS (bitsS (x2 (ix2 (keyRow t s) (0 : Fin 2))) (x2 (ix2 (keyRow t s) (1 : Fin 2))) (x (ix2 r s))) := by
    intro n
    induction n with
    | zero => intro _ h; exact absurd h (Nat.not_lt_zero _)
    | succ n ih =>
      intro hn h
      rw [noises, dif_pos (show n < k0_t2_loop.trips from hn), noiseK_at]
      by_cases e : s.val = n
      · exact if_pos e
      · exact (if_neg e).trans (ih (by omega) (by omega))
  exact step 16 le_rfl s.isLt

end Cert.KernelIdeal.Body
-- ==== Proof.Steps.lean ====
module

public import proofs.«01_k».proof.Proof.Chunk

@[expose] public section

set_option maxRecDepth 16384

noncomputable section

namespace Cert.KernelIdeal.Body

open Cert.KernelIdeal Cert.KernelIdeal.Gen Cert.Sampler
open Idealize.ShloMosaic Idealize.ShloMosaic.TcCoe Idealize.ShloMosaic.Tactic

/-- A row's perturbed logit at a column, minus infinity past the vocabulary. -/
def score (l : ℕ → EReal) (K : BitVec 32 × BitVec 32) (r c : ℕ) : EReal :=
  if c < 100000 then l c + noiseS (bitsS K.1 K.2 (BitVec.ofNat 32 (r * 100000 + c))) else ⊥

/-- A row's exponential at a column, nothing past the vocabulary. -/
def mass (l : ℕ → EReal) (c : ℕ) : EReal := if c < 100000 then Ideal.exp (l c) else 0

theorem bot_add (x : EReal) : (⊥ : EReal) + x = ⊥ := EReal.bot_add x

theorem flat_at (t : Fin grid0.N) (r : Fin 32) (c : Fin 3584) :
    k0_pay428 (grid0.coords t) (ix2 r c) = BitVec.ofNat 32 (r.val * 100000 + (3584 * (t.val % 28) + c.val)) := by
  have h := col_toNat t (ix2 r c)
  have h' : ((ix2 r c) 1).val = c.val := rfl
  rw [h'] at h
  show iota .tc S32x3584 32 [0] iota_S32x3584_d0_w32 (ix2 r c) * 100000#32 + k0_pay425 (grid0.coords t) (ix2 r c) = _
  rw [iota_single_apply]
  have hr : (BitVec.ofNat 32 ((ix2 r c) (⟨0, by decide⟩ : Fin 2)).val) = BitVec.ofNat 32 r.val := rfl
  apply BitVec.eq_of_toNat_eq
  rw [BitVec.toNat_add, h]
  show ((BitVec.ofNat 32 r.val * 100000#32).toNat + _) % _ = _
  simp only [BitVec.toNat_mul, BitVec.toNat_ofNat]
  omega

theorem flat_out (arg : Vec Ideal S32x16 .i32) (r : Fin 32) (s : Fin 16) :
    k0_pay3 (F := Ideal) arg (ix2 r s) = BitVec.ofNat 32 (r.val * 100000 + (arg (ix2 r s) : BitVec 32).toNat) := by
  show iota .tc S32x16 32 [0] iota_S32x16_d0_w32 (ix2 r s) * 100000#32 + (arg (ix2 r s) : BitVec 32) = _
  generalize (arg (ix2 r s) : BitVec 32) = a
  rw [iota_single_apply]
  apply BitVec.eq_of_toNat_eq
  rw [BitVec.toNat_add]
  show ((BitVec.ofNat 32 r.val * 100000#32).toNat + _) % _ = _
  simp only [BitVec.toNat_mul, BitVec.toNat_ofNat]
  omega

/-- What the carried buffers hold after `n` columns. -/
def Good (l : Fin 32 → ℕ → EReal) (K : Fin 16 → BitVec 32 × BitVec 32) (n : ℕ) (st : Run Ideal) : Prop :=
  (∀ r : Fin 32, ∑ c : Fin 3584, (st.sums (ix2 r c) : EReal) = ∑ x ∈ Finset.range n, mass (l r) x)
    ∧ ∀ (r : Fin 32) (s : Fin 16), Running n (score (l r) (K s) r.val) (st.top (ix2 r s)) (st.arg (ix2 r s))

theorem good_start (l : Fin 32 → ℕ → EReal) (K : Fin 16 → BitVec 32 × BitVec 32) : Good l K 0 Run.start := by
  refine ⟨fun r => ?_, fun r s => ?_⟩
  · have e : ∀ c : Fin 3584, ((Run.start (F := Ideal)).sums (ix2 r c) : EReal) = 0 := fun c => by
      show k0_pay422 (F := Ideal) (ix2 r c) = _
      unfold k0_pay422
      rw [shapeCast_self]
      exact zero_eq
    rw [Finset.sum_congr rfl fun c _ => e c, Finset.sum_const_zero]
    rfl
  · have e1 : ((Run.start (F := Ideal)).top (ix2 r s) : EReal) = ⊥ := by
      show k0_pay423 (F := Ideal) (ix2 r s) = _
      unfold k0_pay423
      rw [shapeCast_self]
      exact bot_eq
    have e2 : (Run.start (F := Ideal)).arg (ix2 r s) = 0#32 := by
      show k0_pay424 (ix2 r s) = _
      unfold k0_pay424
      rw [shapeCast_self]
      rfl
    rw [e1, e2]
    exact Running.start _

/-- The keys of a group. -/
def keysOf (x2 : Vec Ideal S32x2 .i32) (t : Fin grid0.N) (s : Fin 16) : BitVec 32 × BitVec 32 :=
  (x2 (ix2 (keyRow t s) (0 : Fin 2)), x2 (ix2 (keyRow t s) (1 : Fin 2)))

theorem pert_at (l : Fin 32 → ℕ → EReal) (t : Fin grid0.N) (x2 : Vec Ideal S32x2 .i32) (x3 : Vec Ideal S32x3584 .f32)
    (hx : ∀ (r : Fin 32) (c : Fin 3584), 3584 * (t.val % 28) + c.val < 100000 → x3 (ix2 r c) = l r (3584 * (t.val % 28) + c.val)) (r : Fin 32) (s : Fin 16) (c : Fin 3584) :
    pert t (k0_pay426 (grid0.coords t) x3) x2 (keyRow t s) (ix2 r c) = score (l r) (keysOf x2 t s) r.val (3584 * (t.val % 28) + c.val) := by
  have hm := masked_apply t x3 (ix2 r c)
  have h' : ((ix2 r c) 1).val = c.val := rfl
  rw [h'] at hm
  show (k0_pay426 (grid0.coords t) x3 (ix2 r c) : EReal) + noisev (F := Ideal) S32x3584 _ (ix2 r c) = _
  rw [noisev_at, bitsv_at, flat_at, hm]
  unfold score keysOf
  by_cases h : 3584 * (t.val % 28) + c.val < 100000
  · rw [if_pos h, if_pos h, hx r c h]
  · rw [if_neg h, if_neg h]
    refine (congrArg (· + _) (show (Scalar.ofBits (F := Ideal) .f32 0xFF800000#32 : EReal) = ⊥ from bot_eq)).trans (bot_add _)

theorem mass_at (l : Fin 32 → ℕ → EReal) (t : Fin grid0.N) (x3 : Vec Ideal S32x3584 .f32)
    (hx : ∀ (r : Fin 32) (c : Fin 3584), 3584 * (t.val % 28) + c.val < 100000 → x3 (ix2 r c) = l r (3584 * (t.val % 28) + c.val)) (r : Fin 32) (c : Fin 3584) :
    Ideal.exp (k0_pay426 (grid0.coords t) x3 (ix2 r c)) = mass (l r) (3584 * (t.val % 28) + c.val) := by
  have hm := masked_apply t x3 (ix2 r c)
  have h' : ((ix2 r c) 1).val = c.val := rfl
  rw [h'] at hm
  rw [hm]
  unfold mass
  by_cases h : 3584 * (t.val % 28) + c.val < 100000
  · rw [if_pos h, if_pos h, hx r c h]
  · rw [if_neg h, if_neg h]
    exact (congrArg Ideal.exp (show (Scalar.ofBits (F := Ideal) .f32 0xFF800000#32 : EReal) = ⊥ from bot_eq)).trans exp_bot

/-- A chunk taken in. -/
theorem good_next (l : Fin 32 → ℕ → EReal) (t : Fin grid0.N) (x2 : Vec Ideal S32x2 .i32) (x3 : Vec Ideal S32x3584 .f32)
    (hx : ∀ (r : Fin 32) (c : Fin 3584), 3584 * (t.val % 28) + c.val < 100000 → x3 (ix2 r c) = l r (3584 * (t.val % 28) + c.val))
    (st : Run Ideal) (h : Good l (keysOf x2 t) (3584 * (t.val % 28)) st) :
    Good l (keysOf x2 t) (3584 * (t.val % 28) + 3584) (Run.next (grid0.coords t) x2 x3 st) := by
  refine ⟨fun r => ?_, fun r s => ?_⟩
  · have e : ∀ c : Fin 3584, ((Run.next (grid0.coords t) x2 x3 st).sums (ix2 r c) : EReal)
        = st.sums (ix2 r c) + mass (l r) (3584 * (t.val % 28) + c.val) := fun c => by
      show k0_pay427 (grid0.coords t) x3 st.sums (ix2 r c) = _
      unfold k0_pay427
      rw [shapeCast_self, ← mass_at l t x3 hx r c]
      rfl
    rw [Finset.sum_congr rfl fun c _ => e c, Finset.sum_add_distrib, h.1 r, Finset.sum_range_add]
    congr 1
  · obtain ⟨s1, s2⟩ := samples_at t (k0_pay426 (grid0.coords t) x3) x2 r s
    have hp := pert_at l t x2 x3 hx r s
    obtain ⟨m1, c1, m2⟩ := rowMax_spec (pert t (k0_pay426 (grid0.coords t) x3) x2 (keyRow t s)) r
    have hcol : ∀ j, (k0_pay425 (grid0.coords t) j).toNat < 2147483647 := fun j => by
      rw [col_toNat]
      have : (j 1).val < 3584 := (j 1).isLt
      omega
    obtain ⟨⟨c2, a1, a2⟩, a3⟩ := rowArg_spec (k0_pay425 (grid0.coords t)) hcol (pert t (k0_pay426 (grid0.coords t) x3) x2 (keyRow t s)) r
    rw [← s1] at m1 m2 a2 a3
    rw [← s2] at a1 a3
    generalize hS : samples (grid0.coords t) (k0_pay426 (grid0.coords t) x3) x2 k0_t1_loop.trips = S at m1 m2 a1 a2 a3
    have hc : ∀ c : Fin 3584, (k0_pay425 (grid0.coords t) (ix2 r c)).toNat = 3584 * (t.val % 28) + c.val := fun c => col_toNat t (ix2 r c)
    have ht : (Run.next (grid0.coords t) x2 x3 st).top (ix2 r s) = max (st.top (ix2 r s) : EReal) (S.1 (ix2 r s)) := by
      show k0_pay1 (k0_pay434 (samples (grid0.coords t) (k0_pay426 (grid0.coords t) x3) x2 k0_t1_loop.trips).1 st.top st.top) (ix2 r s) = _
      rw [hS]
      unfold k0_pay1
      rw [shapeCast_self]
      show Scalar.select (Ideal.cmp .ogt (S.1 (ix2 r s)) (st.top (ix2 r s))) (S.1 (ix2 r s)) (st.top (ix2 r s)) = _
      unfold Scalar.select Ideal.cmp
      by_cases hlt : (st.top (ix2 r s) : EReal) < S.1 (ix2 r s)
      · rw [max_eq_right hlt.le]; exact if_pos (by simp [hlt])
      · rw [max_eq_left (not_lt.mp hlt)]; exact if_neg (by simp [hlt])
    have ha : (Run.next (grid0.coords t) x2 x3 st).arg (ix2 r s) = if (st.top (ix2 r s) : EReal) < S.1 (ix2 r s) then S.2 (ix2 r s) else st.arg (ix2 r s) := by
      show k0_pay2 (samples (grid0.coords t) (k0_pay426 (grid0.coords t) x3) x2 k0_t1_loop.trips).2 (k0_pay433 (samples (grid0.coords t) (k0_pay426 (grid0.coords t) x3) x2 k0_t1_loop.trips).1 st.top) st.arg (ix2 r s) = _
      rw [hS]
      unfold k0_pay2
      rw [shapeCast_self]
      show Scalar.select (Ideal.cmp .ogt (S.1 (ix2 r s)) (st.top (ix2 r s))) (S.2 (ix2 r s)) (st.arg (ix2 r s)) = _
      unfold Scalar.select Ideal.cmp
      by_cases hlt : (st.top (ix2 r s) : EReal) < S.1 (ix2 r s)
      · rw [if_pos hlt]; exact if_pos (by simp [hlt])
      · rw [if_neg hlt]; exact if_neg (by simp [hlt])
    rw [ht, ha]
    have h2 := c2.isLt
    refine (h.2 r s).next (fun c hc1 hc2 => ?_) ?_ ?_ ?_ fun c hc1 hc2 => ?_
    · have := m1 ⟨c - 3584 * (t.val % 28), by omega⟩
      rw [hp] at this
      rwa [show 3584 * (t.val % 28) + (⟨c - 3584 * (t.val % 28), by omega⟩ : Fin 3584).val = c from by show _ + (c - _) = c; omega] at this
    · rw [a1, hc]; omega
    · rw [a1, hc]; omega
    · rw [a1, hc, ← a2, hp]
    · rw [a1, hc] at hc2
      have h3 := m1 ⟨c - 3584 * (t.val % 28), by omega⟩
      have h4 := a3 ⟨c - 3584 * (t.val % 28), by omega⟩
      rw [a1, hc, hc] at h4
      rw [hp] at h3 h4
      rw [show 3584 * (t.val % 28) + (⟨c - 3584 * (t.val % 28), by omega⟩ : Fin 3584).val = c from by show _ + (c - _) = c; omega] at h3 h4
      refine lt_of_le_of_ne h3 fun e => ?_
      have := h4 e
      omega

/-- Past the vocabulary nothing is added. -/
theorem mass_total (l : ℕ → EReal) (k n : ℕ) (hn : n = 100000 + k) :
    ∑ x ∈ Finset.range n, mass l x = ∑ x ∈ Finset.range 100000, Ideal.exp (l x) := by
  subst hn
  rw [Finset.sum_range_add]
  have h1 : ∀ x ∈ Finset.range 100000, mass l x = Ideal.exp (l x) := fun x hx => if_pos (Finset.mem_range.mp hx)
  have h2 : ∀ x ∈ Finset.range k, mass l (100000 + x) = 0 := fun x _ => if_neg (by omega)
  rw [Finset.sum_congr rfl h1, Finset.sum_eq_zero h2, add_zero]

/-- A row's probability of a token. -/
def prob (l : ℕ → EReal) (i : BitVec 32) : EReal := Ideal.div (Ideal.exp (l i.toNat)) (∑ x ∈ Finset.range 100000, Ideal.exp (l x))

theorem good_end (l : Fin 32 → ℕ → EReal) (hl : ∀ r c, l r c < ⊤) (t : Fin grid0.N) (x2 : Vec Ideal S32x2 .i32) (h2 : k0_cond2 (grid0.coords t) = 1#1) (st : Run Ideal)
    (h : Good l (keysOf x2 t) 100352 st) (r : Fin 32) (s : Fin 16) :
    IsTok 100000 (score (l r) (keysOf x2 t s) r.val) (st.out4 (ix3 (0 : Fin 1) r s))
      ∧ st.out5 (grid0.coords t) h2 x2 (ix3 (0 : Fin 1) r s) = prob (l r) (st.out4 (ix3 (0 : Fin 1) r s)) := by
  have e4 : st.out4 (ix3 (0 : Fin 1) r s) = st.arg (ix2 r s) := by
    show k0_pay6 (F := Ideal) st.arg (ix3 (0 : Fin 1) r s) = _
    unfold k0_pay6
    exact ValueIdx.shapeCast_ab_1ab_apply _ _ 0 r s
  rw [e4]
  obtain ⟨ht, hv⟩ := (h.2 r s).tok (m := 100000) (by decide) (by decide) fun c hc => if_neg (by omega)
  refine ⟨ht, ?_⟩
  have e5 : st.out5 (grid0.coords t) h2 x2 (ix3 (0 : Fin 1) r s)
      = Ideal.div (Ideal.exp (st.top (ix2 r s) - noises (grid0.coords t) (k0_pay3 st.arg) x2 h2 k0_t2_loop.trips (ix2 r s)))
        (∑ c : Fin 3584, (st.sums (ix2 r c) : EReal)) := by
    show k0_pay7 (F := Ideal) st.sums _ st.top (ix3 (0 : Fin 1) r s) = _
    unfold k0_pay7
    refine (ValueIdx.shapeCast_ab_1ab_apply _ _ 0 r s).trans ?_
    refine congrArg (Ideal.div _) ((broadcast_col 16 _ _ r s).trans ?_)
    refine (ValueIdx.shapeCast_a_a1_apply _ _ r 0).trans ?_
    exact Ideal.reduceAdd_r2_a1 _ _ _
  rw [e5, noises_at, flat_out, h.1 r]
  have hs : score (l r) (keysOf x2 t s) r.val (st.arg (ix2 r s) : BitVec 32).toNat
      = l r (st.arg (ix2 r s) : BitVec 32).toNat + noiseS (bitsS (x2 (ix2 (keyRow t s) (0 : Fin 2))) (x2 (ix2 (keyRow t s) (1 : Fin 2))) (BitVec.ofNat 32 (r.val * 100000 + (st.arg (ix2 r s) : BitVec 32).toNat))) := if_pos ht.1
  rw [hs] at hv
  obtain ⟨g, hg⟩ := noiseS_real (bitsS (x2 (ix2 (keyRow t s) (0 : Fin 2))) (x2 (ix2 (keyRow t s) (1 : Fin 2))) (BitVec.ofNat 32 (r.val * 100000 + (st.arg (ix2 r s) : BitVec 32).toNat)))
  rw [hg] at hv ⊢
  rw [← hv]
  unfold prob
  refine congrArg₂ Ideal.div (congrArg Ideal.exp ?_) ?_
  · have := hl r (st.arg (ix2 r s) : BitVec 32).toNat
    generalize l r (st.arg (ix2 r s) : BitVec 32).toNat = y at this
    induction y with
    | bot => rfl
    | top => exact absurd this (lt_irrefl _)
    | coe y => rw [← EReal.coe_add, ← EReal.coe_sub]; congr 1; ring
  · exact mass_total (l r) 352 100352 (by norm_num)

end Cert.KernelIdeal.Body
-- ==== Proof.Result.lean ====
module

public import proofs.«01_k».proof.Proof.Steps
public import Idealize.ShloMosaic.Lib.StableHlo.ReadAt
public import Idealize.ShloMosaic.Lib.Pipeline.ValueKit

@[expose] public section

set_option maxRecDepth 16384

noncomputable section

namespace Cert.KernelIdeal.Body

open Cert.KernelIdeal Cert.KernelIdeal.Gen Cert.Sampler
open Idealize.ShloMosaic Idealize.ShloMosaic.TcCoe Idealize.ShloMosaic.StableHlo Idealize.ShloMosaic.Tactic
open Idealize.SL Idealize.SL.Sem
open Idealize.ShloMosaic.Pipeline (Dat Cfg Window)

variable (m : (ℓ : Loc nD τ sig) → Buf (Elt Ideal) ℓ)

/-- The last step's logit of a row at a column. -/
def logitOf (x : S32x8x100000.Idx → EReal) (r : Fin 32) (n : ℕ) : EReal :=
  if h : n < 100000 then x (ix3 r (7 : Fin 8) ⟨n, h⟩) else ⊥

/-- A sample's key. -/
def keyTab (n : Fin 32) : BitVec 32 × BitVec 32 := (lit0 (S32x2.rowMajor (ix2 n (0 : Fin 2))), lit0 (S32x2.rowMajor (ix2 n (1 : Fin 2))))

theorem V_keys (c : Dev nD) (i : S32x2.Idx) : V m c main_c i = lit0 (S32x2.rowMajor i) := by
  show StableHlo.after (List.flatten [hostOps0]) (fun b => m (c, b)) (Proc.devRef .tc main_c) i = _
  after_reads_at

theorem V_logits (c : Dev nD) (i : S32x100000.Idx) :
    V m c main_v1 i = shapeCast S32x100000 (extractStridedSlice S32x1x100000 ![0, 7, 0] (m ((c : Thread nD τ).loc main_arg1)) slices_S32x8x100000_S32x1x100000_0_7_0) shapeCasts_S32x1x100000_S32x100000 i := by
  show StableHlo.after (List.flatten [hostOps0]) (fun b => m (c, b)) (Proc.devRef .tc main_v1) i = _
  after_reads_at

/-- A row and a column of the reshaped slice. -/
theorem V_logits_at (c : Dev nD) (r : Fin 32) (n : Fin 100000) :
    V m c main_v1 (ix2 r n) = m ((c : Thread nD τ).loc main_arg1) (ix3 r (7 : Fin 8) n) := by
  rw [V_logits]
  refine (shapeCast_apply _ _ _ (ix3 r (0 : Fin 1) n) ?_).trans ?_
  · rw [Shape.rowMajor_val_three, Shape.rowMajor_val_two]
    show (r.val * 1 + 0) * 100000 + n.val = r.val * 100000 + n.val
    omega
  · refine extractStridedSlice_apply _ _ _ _ (ix3 r (7 : Fin 8) n) fun a => ?_
    match a with
    | ⟨0, _⟩ => show r.val = 0 + r.val; omega
    | ⟨1, _⟩ => rfl
    | ⟨2, _⟩ => show n.val = 0 + n.val; omega

theorem index0_0 : ∀ t : Fin grid0.N, win0_0.index t 0 = 0 ∧ win0_0.index t 1 = 0 := by decide +kernel
theorem index0_1 : ∀ t : Fin grid0.N, win0_1.index t 0 = 0 ∧ win0_1.index t 1 = t.val % 28 := by decide +kernel
theorem index0_2 : ∀ t : Fin grid0.N, win0_2.index t 0 = t.val / 28 ∧ win0_2.index t 1 = 0 ∧ win0_2.index t 2 = 0 := by decide +kernel
theorem index0_3 : ∀ t : Fin grid0.N, win0_3.index t 0 = t.val / 28 ∧ win0_3.index t 1 = 0 ∧ win0_3.index t 2 = 0 := by decide +kernel

theorem keysAt_at (c : Dev nD) (t : Fin cfg0.N) (n : Fin 32) (p : Fin 2) : keysAt m c t (ix2 n p) = lit0 (S32x2.rowMajor (ix2 n p)) := by
  rw [← V_keys m c]
  show V m c main_c ((win0_0.rect t).emb (ix2 n p)) = _
  congr 1
  funext a
  apply Fin.ext
  refine (Window.rect_emb_val win0_0 t (ix2 n p) a rfl).trans ?_
  obtain ⟨h0, h1⟩ := index0_0 t
  match a with
  | ⟨0, _⟩ => show win0_0.index t 0 * _ + n.val = n.val; rw [h0]; omega
  | ⟨1, _⟩ => show win0_0.index t 1 * _ + p.val = p.val; rw [h1]; omega

theorem keysOf_at (c : Dev nD) (t : Fin cfg0.N) (s : Fin 16) : keysOf (keysAt m c t) t s = keyTab (keyRow t s) := by
  unfold keysOf keyTab
  rw [keysAt_at, keysAt_at]

theorem logitsAt_at (c : Dev nD) (t : Fin cfg0.N) (r : Fin 32) (j : Fin 3584) (h : 3584 * (t.val % 28) + j.val < 100000) :
    logitsAt m c t (ix2 r j) = logitOf (m ((c : Thread nD τ).loc main_arg1)) r (3584 * (t.val % 28) + j.val) := by
  obtain ⟨w0, w1⟩ := width_eq t
  have hm : win0_1.moved (grid0.coords t) (ix2 r j) = true := by
    refine (win0_1.moved_iff _ _).mpr fun a => ?_
    match a with
    | ⟨0, _⟩ =>
      change r.val < win0_1.xsize (grid0.coords t) 0
      rw [w0]
      exact r.isLt
    | ⟨1, _⟩ =>
      change j.val < win0_1.xsize (grid0.coords t) 1
      rw [w1]
      have := j.isLt
      omega
  unfold logitsAt logitOf
  rw [dif_pos h, ← V_logits_at m c r ⟨_, h⟩]
  unfold Window.fill
  rw [dif_pos hm]
  show V m c main_v1 ((win0_1.rect t).emb _) = _
  congr 1
  funext a
  apply Fin.ext
  refine (Window.rect_emb_val win0_1 t _ a rfl).trans ?_
  obtain ⟨h0, h1⟩ := index0_1 t
  match a with
  | ⟨0, _⟩ => show win0_1.index t 0 * _ + r.val = r.val; rw [h0]; omega
  | ⟨1, _⟩ => show win0_1.index t 1 * 3584 + j.val = 3584 * (t.val % 28) + j.val; rw [h1]; omega

/-- The carried buffers after each point. -/
theorem good_run (c : Dev nD) : ∀ (n : ℕ) (h : n < cfg0.N),
    Good (logitOf (m ((c : Thread nD τ).loc main_arg1))) (fun s => keyTab (keyRow ⟨n, h⟩ s)) (3584 * (n % 28) + 3584) (runAt m c (n + 1)) := by
  intro n
  induction n with
  | zero =>
    intro h
    have e : (fun s => keyTab (keyRow ⟨0, h⟩ s)) = keysOf (keysAt m c ⟨0, h⟩) ⟨0, h⟩ := funext fun s => (keysOf_at m c ⟨0, h⟩ s).symm
    rw [e, runAt_succ m c ⟨0, h⟩, if_pos (show (⟨0, h⟩ : Fin cfg0.N).val % 28 = 0 from rfl)]
    exact good_next _ ⟨0, h⟩ _ _ (fun r j hj => logitsAt_at m c ⟨0, h⟩ r j hj) _ (good_start _ _)
  | succ n ih =>
    intro h
    have e : (fun s => keyTab (keyRow ⟨n + 1, h⟩ s)) = keysOf (keysAt m c ⟨n + 1, h⟩) ⟨n + 1, h⟩ := funext fun s => (keysOf_at m c ⟨n + 1, h⟩ s).symm
    have hp := ih (Nat.lt_of_succ_lt h)
    rw [e, runAt_succ m c ⟨n + 1, h⟩]
    refine good_next _ ⟨n + 1, h⟩ _ _ (fun r j hj => logitsAt_at m c ⟨n + 1, h⟩ r j hj) _ ?_
    by_cases h0 : (n + 1) % 28 = 0
    · rw [if_pos h0, show 3584 * ((⟨n + 1, h⟩ : Fin cfg0.N).val % 28) = 0 from by show 3584 * ((n + 1) % 28) = 0; omega]
      exact good_start _ _
    · rw [if_neg h0, ← e, show 3584 * ((⟨n + 1, h⟩ : Fin cfg0.N).val % 28) = 3584 * (n % 28) + 3584 from by show 3584 * ((n + 1) % 28) = _; omega]
      rw [show (fun s => keyTab (keyRow ⟨n + 1, h⟩ s)) = fun s => keyTab (keyRow ⟨n, Nat.lt_of_succ_lt h⟩ s) from
        funext fun s => congrArg keyTab (Fin.ext (by show 16 * ((n + 1) / 28) + s.val = 16 * (n / 28) + s.val; omega))]
      exact hp

/-- What a group's last point stores. -/
theorem group_end (hl : ∀ (c : Dev nD) r n, logitOf (m ((c : Thread nD τ).loc main_arg1)) r n < ⊤) (c : Dev nD) (t : Fin cfg0.N) (h : t.val % 28 = 27) (r : Fin 32) (s : Fin 16) :
    IsTok 100000 (score (logitOf (m ((c : Thread nD τ).loc main_arg1)) r) (keyTab (keyRow t s)) r.val) (tokAt m c t (ix3 (0 : Fin 1) r s))
      ∧ probAt m c t (ix3 (0 : Fin 1) r s) = prob (logitOf (m ((c : Thread nD τ).loc main_arg1)) r) (tokAt m c t (ix3 (0 : Fin 1) r s)) := by
  have h2 : k0_cond2 (grid0.coords t) = 1#1 := (last_iff t).mpr h
  have hg := good_run m c t.val t.isLt
  have e : (fun s => keyTab (keyRow ⟨t.val, t.isLt⟩ s)) = keysOf (keysAt m c t) t := funext fun s => (keysOf_at m c t s).symm
  rw [e, h] at hg
  have := good_end _ (hl c) t _ h2 _ hg r s
  rw [keysOf_at] at this
  rw [prob_eq m c t h2]
  exact this

/-- The tokens' and the probabilities' arrays after the run. -/
theorem tokens_arr (hl : ∀ (c : Dev nD) r n, logitOf (m ((c : Thread nD τ).loc main_arg1)) r n < ⊤) (c : Dev nD) (g : Fin 2) (r : Fin 32) (s : Fin 16) (n : Fin 32) (hn : n.val = 16 * g.val + s.val) :
    IsTok 100000 (score (logitOf (m ((c : Thread nD τ).loc main_arg1)) r) (keyTab n) r.val) ((dats m 0 c).arrAt 2 cfg0.N (ix3 g r s)) := by
  refine (dats m 0 c).arrAt_forall_of_covers 2 (fun i v => ∀ (r : Fin 32) (n : Fin 32), (i 1).val = r.val → n.val = 16 * (i 0).val + (i 2).val →
    IsTok 100000 (score (logitOf (m ((c : Thread nD τ).loc main_arg1)) r) (keyTab n) r.val) v) (by decide +kernel) (fun t hf y r n hr hn => ?_) (ix3 g r s) (Memref.isWhole_whole _) r n rfl hn
  have h27 := (flush0_2 t).mp hf
  obtain ⟨h0, h1, h2⟩ := index0_2 t
  have y0 : (y 0).val < 1 := (y 0).isLt
  have y1 : (y 1).val < 32 := (y 1).isLt
  have y2 : (y 2).val < 16 := (y 2).isLt
  have e0 : ((((cfg0.win 2).blk t).view.emb y) 0).val = win0_2.index t 0 * 1 + (y 0).val := Window.rect_emb_val win0_2 t y 0 rfl
  have e1 : ((((cfg0.win 2).blk t).view.emb y) 1).val = win0_2.index t 1 * 32 + (y 1).val := Window.rect_emb_val win0_2 t y 1 rfl
  have e2 : ((((cfg0.win 2).blk t).view.emb y) 2).val = win0_2.index t 2 * 16 + (y 2).val := Window.rect_emb_val win0_2 t y 2 rfl
  have er : r = ⟨(y 1).val, y1⟩ := Fin.ext (hr.symm.trans (by rw [e1, h1]; show _ = (y 1).val; omega))
  have en : n = keyRow t ⟨(y 2).val, y2⟩ := Fin.ext (hn.trans (by rw [e0, e2, h0, h2]; show _ = 16 * (t.val / 28) + (y 2).val; omega))
  subst er en
  have := (group_end m hl c t h27 ⟨(y 1).val, y1⟩ ⟨(y 2).val, y2⟩).1
  have ey : (ix3 (0 : Fin 1) (⟨(y 1).val, y1⟩ : Fin 32) (⟨(y 2).val, y2⟩ : Fin 16) : S1x32x16.Idx) = (cfg0.win 2).xinj (cfg0.grid.coords t) y := by
    funext a
    apply Fin.ext
    match a with
    | ⟨0, _⟩ => show 0 = (y 0).val; omega
    | ⟨1, _⟩ => rfl
    | ⟨2, _⟩ => rfl
  rw [ey] at this
  exact this

theorem probs_arr (hl : ∀ (c : Dev nD) r n, logitOf (m ((c : Thread nD τ).loc main_arg1)) r n < ⊤) (c : Dev nD) (g : Fin 2) (r : Fin 32) (s : Fin 16) (n : Fin 32) (hn : n.val = 16 * g.val + s.val) :
    ∃ i, IsTok 100000 (score (logitOf (m ((c : Thread nD τ).loc main_arg1)) r) (keyTab n) r.val) i
      ∧ (dats m 0 c).arrAt 3 cfg0.N (ix3 g r s) = prob (logitOf (m ((c : Thread nD τ).loc main_arg1)) r) i := by
  refine (dats m 0 c).arrAt_forall_of_covers 3 (fun i v => ∀ (r : Fin 32) (n : Fin 32), (i 1).val = r.val → n.val = 16 * (i 0).val + (i 2).val →
    ∃ i, IsTok 100000 (score (logitOf (m ((c : Thread nD τ).loc main_arg1)) r) (keyTab n) r.val) i
      ∧ v = prob (logitOf (m ((c : Thread nD τ).loc main_arg1)) r) i) (by decide +kernel) (fun t hf y r n hr hn => ?_) (ix3 g r s) (Memref.isWhole_whole _) r n rfl hn
  have h27 := (flush0_3 t).mp hf
  obtain ⟨h0, h1, h2⟩ := index0_3 t
  have y0 : (y 0).val < 1 := (y 0).isLt
  have y1 : (y 1).val < 32 := (y 1).isLt
  have y2 : (y 2).val < 16 := (y 2).isLt
  have e0 : ((((cfg0.win 3).blk t).view.emb y) 0).val = win0_3.index t 0 * 1 + (y 0).val := Window.rect_emb_val win0_3 t y 0 rfl
  have e1 : ((((cfg0.win 3).blk t).view.emb y) 1).val = win0_3.index t 1 * 32 + (y 1).val := Window.rect_emb_val win0_3 t y 1 rfl
  have e2 : ((((cfg0.win 3).blk t).view.emb y) 2).val = win0_3.index t 2 * 16 + (y 2).val := Window.rect_emb_val win0_3 t y 2 rfl
  have er : r = ⟨(y 1).val, y1⟩ := Fin.ext (hr.symm.trans (by rw [e1, h1]; show _ = (y 1).val; omega))
  have en : n = keyRow t ⟨(y 2).val, y2⟩ := Fin.ext (hn.trans (by rw [e0, e2, h0, h2]; show _ = 16 * (t.val / 28) + (y 2).val; omega))
  subst er en
  obtain ⟨g1, g2⟩ := group_end m hl c t h27 ⟨(y 1).val, y1⟩ ⟨(y 2).val, y2⟩
  have ey : (ix3 (0 : Fin 1) (⟨(y 1).val, y1⟩ : Fin 32) (⟨(y 2).val, y2⟩ : Fin 16) : S1x32x16.Idx) = (cfg0.win 3).xinj (cfg0.grid.coords t) y := by
    funext a
    apply Fin.ext
    match a with
    | ⟨0, _⟩ => show 0 = (y 0).val; omega
    | ⟨1, _⟩ => rfl
    | ⟨2, _⟩ => rfl
  refine ⟨_, g1, ?_⟩
  rw [ey] at g2
  rw [ey]
  exact g2

/-- The results' arrays as the program returns them. -/
def tokOut (c : Dev nD) : Buf (Elt Ideal) ((c : Thread nD τ).loc main_v7) := Pipeline.afterTail₀ cfgs (dats m) 0 (V0 m) [hostOps1] c main_v7
def probOut (c : Dev nD) : Buf (Elt Ideal) ((c : Thread nD τ).loc main_v8) := Pipeline.afterTail₀ cfgs (dats m) 0 (V0 m) [hostOps1] c main_v8

theorem arr_inj : Function.Injective (Pipeline.arrRef spec0) := by decide

theorem tokOut_at (c : Dev nD) (r : Fin 32) (a : Fin 4) (b : Fin 8) :
    tokOut m c (ix3 r a b) = (dats m 0 c).arrAt 2 cfg0.N (ix3 (⟨(a.val * 8 + b.val) / 16, by omega⟩ : Fin 2) r (⟨(a.val * 8 + b.val) % 16, by omega⟩ : Fin 16)) := by
  unfold tokOut Pipeline.afterTail₀
  after_reads_at
  exact congrFun (Pipeline.withArrays_arr spec0 arr_inj c (V0 m c) (fun w => (dats m 0 c).arrAt w cfg0.N) 2) _

theorem probOut_at (c : Dev nD) (r : Fin 32) (a : Fin 4) (b : Fin 8) :
    probOut m c (ix3 r a b) = (dats m 0 c).arrAt 3 cfg0.N (ix3 (⟨(a.val * 8 + b.val) / 16, by omega⟩ : Fin 2) r (⟨(a.val * 8 + b.val) % 16, by omega⟩ : Fin 16)) := by
  unfold probOut Pipeline.afterTail₀
  after_reads_at
  exact congrFun (Pipeline.withArrays_arr spec0 arr_inj c (V0 m c) (fun w => (dats m 0 c).arrAt w cfg0.N) 3) _

/-- What the two results are: for each row and sample the first column of the largest perturbed logit, and its probability. -/
def Results (x : S32x8x100000.Idx → EReal) (tok : S32x4x8.Idx → BitVec 32) (p : S32x4x8.Idx → EReal) : Prop :=
  ∀ (r : Fin 32) (a : Fin 4) (b : Fin 8),
    IsTok 100000 (score (logitOf x r) (keyTab ⟨a.val * 8 + b.val, by omega⟩) r.val) (tok (ix3 r a b))
      ∧ p (ix3 r a b) = prob (logitOf x r) (tok (ix3 r a b))

theorem Results.unique {x : S32x8x100000.Idx → EReal} {tok tok' : S32x4x8.Idx → BitVec 32} {p p' : S32x4x8.Idx → EReal}
    (h : Results x tok p) (h' : Results x tok' p') : tok = tok' ∧ p = p' := by
  have e : tok = tok' := funext fun i => by
    have := (h (i 0) (i 1) (i 2)).1.unique (h' (i 0) (i 1) (i 2)).1
    rwa [← eq_ix3 i] at this
  refine ⟨e, funext fun i => ?_⟩
  have h1 := (h (i 0) (i 1) (i 2)).2
  have h2 := (h' (i 0) (i 1) (i 2)).2
  rw [← eq_ix3 i] at h1 h2
  rw [h1, h2, e]

theorem kernel_results (hl : ∀ (c : Dev nD) r n, logitOf (m ((c : Thread nD τ).loc main_arg1)) r n < ⊤) (c : Dev nD) :
    Results (m ((c : Thread nD τ).loc main_arg1)) (tokOut m c) (probOut m c) := fun r a b => by
  have hn : (⟨a.val * 8 + b.val, by omega⟩ : Fin 32).val = 16 * (⟨(a.val * 8 + b.val) / 16, by omega⟩ : Fin 2).val + (⟨(a.val * 8 + b.val) % 16, by omega⟩ : Fin 16).val := by
    show a.val * 8 + b.val = 16 * ((a.val * 8 + b.val) / 16) + (a.val * 8 + b.val) % 16; omega
  rw [tokOut_at, probOut_at]
  have h1 := tokens_arr m hl c _ r _ ⟨a.val * 8 + b.val, by omega⟩ hn
  obtain ⟨i, h2, h3⟩ := probs_arr m hl c _ r _ ⟨a.val * 8 + b.val, by omega⟩ hn
  exact ⟨h1, h3.trans (by rw [h1.unique h2])⟩

/-- The kernel's program ends with these results and its arguments as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v7) = tokOut m c
      ∧ r.2.mem ((c.tc : Thread nD τ).loc main_v8) = probOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).2 main_v7 (Pipeline.mem_restRefs_of main_v7 (by decide) (by decide)),
     (h.1 c).2 main_v8 (Pipeline.mem_restRefs_of main_v8 (by decide) (by decide)),
     (h.1 c).2 main_arg0 (Pipeline.mem_restRefs_of main_arg0 (by decide) (by decide)) |>.trans (W_main_arg0 m (dats m) c),
     (h.1 c).2 main_arg1 (Pipeline.mem_restRefs_of main_arg1 (by decide) (by decide)) |>.trans (W_main_arg1 m (dats m) c),
     (h.1 c).2 main_arg2 (Pipeline.mem_restRefs_of main_arg2 (by decide) (by decide)) |>.trans (W_main_arg2 m (dats m) c),
     (h.1 c).2 main_arg3 (Pipeline.mem_restRefs_of main_arg3 (by decide) (by decide)) |>.trans (W_main_arg3 m (dats m) c)⟩) (run_main m ρ)

end Cert.KernelIdeal.Body
-- ==== Proof.RefArg.lean ====
module

public import proofs.«01_k».proof.Proof.RefRead
public import proofs.«01_k».proof.Proof.Noise
public import Idealize.ShloMosaic.Lib.ReduceAll
public import Idealize.ShloMosaic.Lib.Pointwise.Reduce

@[expose] public section

set_option maxRecDepth 16384

noncomputable section

namespace Cert.ReferenceIdeal.Value

open Cert.ReferenceIdeal Cert.ReferenceIdeal.Gen Cert.Sampler
open Idealize.ShloMosaic Idealize.ShloMosaic.TcCoe Idealize.ShloMosaic.StableHlo Idealize.ShloMosaic.Tactic
open Idealize.SL Idealize.SL.Sem

/-! ## Rows of the logits -/

theorem mem_cols (r : Fin 32) (i : S32x100000.Idx) : reducesTo_S32x100000_S32_d1.drop i = ix1 r ↔ ∃ c : Fin 100000, ix2 r c = i :=
  Shape.ReducesTo.fiber_r2_a1 reducesTo_S32x100000_S32_d1 (ix1 r) i

/-- A row's values by column. -/
def rowOf (x : S32x100000.Idx → EReal) (r : Fin 32) (n : ℕ) : EReal := if h : n < 100000 then x (ix2 r ⟨n, h⟩) else ⊥

theorem rowOf_at (x : S32x100000.Idx → EReal) (r : Fin 32) (c : Fin 100000) : rowOf x r c.val = x (ix2 r c) := dif_pos c.isLt

/-- The step of the reference's argument of the maximum. -/
theorem reducer_eq (a b : EReal × BitVec 32) (ha : a.2.toNat < 2 ^ 31) (hb : b.2.toNat < 2 ^ 31) :
    reducer_argmax_f32_i32 (F := Ideal) a b = if b.1 < a.1 ∨ (a.1 = b.1 ∧ a.2.toNat < b.2.toNat) then a else b := by
  obtain ⟨x, i⟩ := a
  obtain ⟨y, j⟩ := b
  replace ha : i.toNat < 2 ^ 31 := ha
  replace hb : j.toNat < 2 ^ 31 := hb
  have hs : i.slt j = decide (i.toNat < j.toNat) := by
    have e1 : i.toInt = i.toNat := by rw [BitVec.toInt_eq_toNat_of_lt (by omega)]
    have e2 : j.toInt = j.toNat := by rw [BitVec.toInt_eq_toNat_of_lt (by omega)]
    simp only [BitVec.slt, e1, e2, Nat.cast_lt]
  show (Scalar.select (Ideal.cmp .ogt x y ||| Ideal.cmp .une x x) x y,
    Scalar.select ((Ideal.cmp .ogt x y ||| Ideal.cmp .une x x) ||| (Ideal.cmp .oeq x y &&& BitVec.ofBool (i.slt j))) i j) = if y < x ∨ (x = y ∧ i.toNat < j.toNat) then (x, i) else (y, j)
  rw [hs]
  unfold Scalar.select Ideal.cmp
  by_cases h1 : y < x
  · have h2 : x ≠ y := h1.ne'
    simp [h1, h2]
  · by_cases h2 : x = y
    · subst h2
      by_cases h3 : i.toNat < j.toNat <;> simp [h3]
    · simp [h1, h2]

/-- The first column of a row's largest value, as the reference takes it. -/
theorem argmax_at (x : FVec Ideal S32x100000 .f32) (r : Fin 32) :
    IsTok 100000 (rowOf x r) (Host.argReduce (reducer_argmax_f32_i32 (F := Ideal)) x (iotaInDim S32x100000 32 1) (constant (F := Ideal) S_ .f32 0xFF800000#32) (constantI S_ 32 0#32)
      reducesTo_S32x100000_S32_d1 h_S_ (ix1 r)).2 := by
  rw [Ideal.argReduce_eq_reduce2]
  have hi : ∀ c : Fin 100000, (iotaInDim S32x100000 32 1 (ix2 r c)).toNat = c.val := fun c => by
    show (BitVec.ofNat 32 c.val).toNat = _
    rw [BitVec.toNat_ofNat]
    have := c.isLt
    omega
  obtain ⟨⟨h1, h1'⟩, h2, h3⟩ := foldl_first (reducer_argmax_f32_i32 (F := Ideal)) reducer_eq
    (fun n : Fin S32x100000.numel => (x (S32x100000.rowMajor.symm n), iotaInDim S32x100000 32 1 (S32x100000.rowMajor.symm n)))
    (fun n => by
      show (BitVec.ofNat 32 (S32x100000.rowMajor.symm n 1).val).toNat < _
      rw [BitVec.toNat_ofNat]
      have : (S32x100000.rowMajor.symm n 1).val < 100000 := (S32x100000.rowMajor.symm n 1).isLt
      omega)
    ((List.finRange S32x100000.numel).filter fun n => reducesTo_S32x100000_S32_d1.drop (S32x100000.rowMajor.symm n) = ix1 r)
    (⊥, 0#32) (by decide)
  have e : Host.reduce2 (reducer_argmax_f32_i32 (F := Ideal)) x (iotaInDim S32x100000 32 1) (constant (F := Ideal) S_ .f32 0xFF800000#32) (constantI S_ 32 0#32)
      reducesTo_S32x100000_S32_d1 h_S_ (ix1 r)
    = ((List.finRange S32x100000.numel).filter fun n => reducesTo_S32x100000_S32_d1.drop (S32x100000.rowMajor.symm n) = ix1 r).foldl
      (fun r n => reducer_argmax_f32_i32 (F := Ideal) r (x (S32x100000.rowMajor.symm n), iotaInDim S32x100000 32 1 (S32x100000.rowMajor.symm n))) (⊥, 0#32) := by
    rw [← bot_eq]; rfl
  rw [e]
  generalize ((List.finRange S32x100000.numel).filter fun n => reducesTo_S32x100000_S32_d1.drop (S32x100000.rowMajor.symm n) = ix1 r).foldl
      (fun r n => reducer_argmax_f32_i32 (F := Ideal) r (x (S32x100000.rowMajor.symm n), iotaInDim S32x100000 32 1 (S32x100000.rowMajor.symm n))) (⊥, 0#32) = w at h1 h1' h2 h3
  have hc : ∀ c : Fin 100000, rowOf x r c.val ≤ w.1 ∧ (rowOf x r c.val = w.1 → w.2.toNat ≤ c.val) := fun c => by
    have := h2 (S32x100000.rowMajor (ix2 r c)) (List.mem_filter.mpr ⟨List.mem_finRange _, by
      rw [decide_eq_true_eq, Equiv.symm_apply_apply]; exact (mem_cols r _).mpr ⟨c, rfl⟩⟩)
    simp only [Equiv.symm_apply_apply, hi] at this
    rwa [rowOf_at]
  have hw : w.2.toNat < 100000 ∧ rowOf x r w.2.toNat = w.1 := by
    rcases h3 with h3 | ⟨n, hn, h3⟩
    · have h0 := (hc ⟨0, by decide⟩).1
      rw [h3] at h0 ⊢
      exact ⟨by decide, le_bot_iff.mp h0⟩
    · obtain ⟨c, hcn⟩ := (mem_cols r _).mp (of_decide_eq_true (List.mem_filter.mp hn).2)
      rw [← hcn] at h3
      rw [h3]
      refine ⟨?_, ?_⟩
      · show (iotaInDim S32x100000 32 1 (ix2 r c)).toNat < _
        rw [hi]; exact c.isLt
      · show rowOf x r (iotaInDim S32x100000 32 1 (ix2 r c)).toNat = x (ix2 r c)
        rw [hi, rowOf_at]
  refine ⟨hw.1, fun c h => hw.2 ▸ (hc ⟨c, h⟩).1, fun c h => ?_⟩
  have h' := hc ⟨c, h.trans hw.1⟩
  rw [hw.2]
  exact lt_of_le_of_ne h'.1 fun e => absurd (h'.2 e) (not_le.mpr h)

/-- Taking along a row: the operand at the column the index names. -/
theorem gather_at (x : FVec Ideal S32x100000 .f32) (idx : IVec S32x1x1 32) (r : Fin 32) (n : Fin 100000) (h : (idx (ix3 r (0 : Fin 1) (0 : Fin 1))).toInt = n.val) :
    Host.gather gather_S32x100000_S32x1x1_S32x1_n_1_0_0_1_2_11 x idx (ix2 r (0 : Fin 1)) = x (ix2 r n) := by
  unfold Host.gather
  congr 1
  funext a
  refine Fin.ext ?_
  show gather_S32x100000_S32x1x1_S32x1_n_1_0_0_1_2_11.start (ix2 r (0 : Fin 1)) idx a + gather_S32x100000_S32x1x1_S32x1_n_1_0_0_1_2_11.batchCoord (ix2 r (0 : Fin 1)) a
      + gather_S32x100000_S32x1x1_S32x1_n_1_0_0_1_2_11.offCoord (ix2 r (0 : Fin 1)) a = _
  match a with
  | ⟨0, _⟩ =>
    show gather_S32x100000_S32x1x1_S32x1_n_1_0_0_1_2_11.start _ idx 0 + gather_S32x100000_S32x1x1_S32x1_n_1_0_0_1_2_11.batchCoord _ 0 + gather_S32x100000_S32x1x1_S32x1_n_1_0_0_1_2_11.offCoord _ 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32x100000_S32x1x1_S32x1_n_1_0_0_1_2_11.operandBatchingDims from List.mem_singleton.mpr rfl)]
    rfl
  | ⟨1, _⟩ =>
    show gather_S32x100000_S32x1x1_S32x1_n_1_0_0_1_2_11.start _ idx 1 + gather_S32x100000_S32x1x1_S32x1_n_1_0_0_1_2_11.batchCoord _ 1 + gather_S32x100000_S32x1x1_S32x1_n_1_0_0_1_2_11.offCoord _ 1 = _
    rw [GatherDims.batchCoord_eq_zero _ _ _ (fun h => by simp [gather_S32x100000_S32x1x1_S32x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x100000_S32x1x1_S32x1_n_1_0_0_1_2_11.startIndexMap from List.mem_singleton.mpr rfl)]
    have hsi : ∀ k, gather_S32x100000_S32x1x1_S32x1_n_1_0_0_1_2_11.siIdx (ix2 r (0 : Fin 1)) k = ix3 r (0 : Fin 1) (0 : Fin 1) := fun k => by
      funext b
      refine Fin.ext ?_
      match b with
      | ⟨0, _⟩ => rfl
      | ⟨1, _⟩ => rfl
      | ⟨2, _⟩ => exact Nat.lt_one_iff.mp (Fin.isLt _)
    rw [hsi, h]
    show min n.val (100000 - 1) = n.val
    have := n.isLt
    omega

end Cert.ReferenceIdeal.Value
-- ==== Proof.RefKeys.lean ====
module

public import proofs.«01_k».proof.Proof.RefRead
public import proofs.«01_k».proof.Proof.Result
public import Idealize.ShloMosaic.Lib.Pointwise.SelectCore

@[expose] public section

set_option maxRecDepth 16384

noncomputable section

namespace Cert.ReferenceIdeal.Value

open Cert.ReferenceIdeal Cert.ReferenceIdeal.Gen Cert.Sampler
open Idealize.ShloMosaic Idealize.ShloMosaic.TcCoe Idealize.ShloMosaic.StableHlo Idealize.ShloMosaic.Tactic
open Idealize.SL Idealize.SL.Sem

variable {F : FTy → Type} [FloatOps F]

/-- The two words at a place of the split. -/
def split (K : BitVec 32 × BitVec 32) (i : ℕ) : BitVec 32 × BitVec 32 := pairS K.1 K.2 (1#64 * BitVec.ofNat 64 i)

/-- The key that trip `k` meets. -/
def chain : ℕ → BitVec 32 × BitVec 32
  | 0 => (0#32, 42#32)
  | k + 1 => split (chain k) 0

/-- The keys that the trips draw with are the kernel's. -/
theorem chain_keys : ∀ k : Fin 32, split (chain k.val) 1 = Cert.KernelIdeal.Body.keyTab k := by
  decide +kernel

/-- The key that an array of two words holds. -/
def keyIn (x : S2.Idx → BitVec 32) : BitVec 32 × BitVec 32 := (x (ix1 (0 : Fin 2)), x (ix1 (1 : Fin 2)))

theorem v46_at (V : Valuation τ sig (Elt F)) (i j : Fin 2) : after while0Ops0 V (Proc.devRef .tc main_while0b_v46) (ix2 i j)
    = if j.val < 1 then (split (keyIn (V (Proc.devRef .tc main_v41_3))) i.val).1 else (split (keyIn (V (Proc.devRef .tc main_v41_3))) i.val).2 := by
  have e : after while0Ops0 V (Proc.devRef .tc main_while0b_v46) = concatenate S2x2 1 [⟨S2x1, after while0Ops0 V (Proc.devRef .tc main_while0b_call0_v12)⟩,
      ⟨S2x1, after while0Ops0 V (Proc.devRef .tc main_while0b_call0_v13)⟩] concatenates_S2x1_S2x1_S2x2_d1 := by
    sl_kernel_rfl
  rw [e, concatenate_pair_apply]
  split
  · rename_i h
    refine (split_read0 V _).trans (Eq.trans ?_ (if_pos (show j.val < 1 from h)).symm)
    rfl
  · rename_i h
    refine (split_read1 V _).trans (Eq.trans ?_ (if_neg (show ¬ j.val < 1 from h)).symm)
    rfl

theorem v48_read (V : Valuation τ sig (Elt F)) (j : Fin 2) : after while0Ops0_1 V (Proc.devRef .tc main_while0b_v48) (ix1 j)
    = V (Proc.devRef .tc main_while0b_v46) (ix2 (0 : Fin 2) j) := by
  after_reads_at

theorem v50_read (V : Valuation τ sig (Elt F)) (j : Fin 2) : after while0Ops0_1 V (Proc.devRef .tc main_while0b_v50) (ix1 j)
    = V (Proc.devRef .tc main_while0b_v46) (ix2 (1 : Fin 2) j) := by
  after_reads_at

/-- The trip's flat place of an element, as two words. -/
theorem flat_words (r : Fin 32) (c : Fin 100000) (k0 k1 : BitVec 32) :
    pairS k0 k1 (flat (ix2 r c)) = wordsS k0 k1 0#32 (BitVec.ofNat 32 (r.val * 100000 + c.val)) := by
  have e : flat (ix2 r c) = BitVec.ofNat 64 (r.val * 100000 + c.val) := by
    apply BitVec.eq_of_toNat_eq
    show (100000#64 * BitVec.ofNat 64 r.val + 1#64 * BitVec.ofNat 64 c.val).toNat = _
    simp only [BitVec.toNat_add, BitVec.toNat_mul, BitVec.toNat_ofNat]
    omega
  unfold pairS
  rw [e]
  have hr := r.isLt
  have hc := c.isLt
  congr 1
  · apply BitVec.eq_of_toNat_eq
    rw [BitVec.toNat_setWidth, BitVec.ushiftRight_eq', BitVec.toNat_ushiftRight, BitVec.toNat_ofNat]
    show ((r.val * 100000 + c.val) % 2 ^ 64) >>> 32 % 2 ^ 32 = 0
    rw [Nat.mod_eq_of_lt (show r.val * 100000 + c.val < 2 ^ 64 by omega), Nat.shiftRight_eq_div_pow, Nat.div_eq_of_lt (by omega)]
  · apply BitVec.eq_of_toNat_eq
    rw [BitVec.toNat_setWidth, BitVec.toNat_ofNat, BitVec.toNat_ofNat]
    omega

end Cert.ReferenceIdeal.Value
-- ==== Proof.RefTrip.lean ====
module

public import proofs.«01_k».proof.Proof.RefArg
public import proofs.«01_k».proof.Proof.RefKeys

@[expose] public section

set_option maxRecDepth 16384

noncomputable section

namespace Cert.ReferenceIdeal.Value

open Cert.ReferenceIdeal Cert.ReferenceIdeal.Gen Cert.Sampler
open Idealize.ShloMosaic Idealize.ShloMosaic.TcCoe Idealize.ShloMosaic.StableHlo Idealize.ShloMosaic.Tactic
open Idealize.SL Idealize.SL.Sem

open Cert.KernelIdeal.Body (score)

variable (V : Valuation τ sig (Elt Ideal))

/-- What a trip draws from: the noise added to the logits. -/
theorem v52_arr : after while0Ops0_3 V (Proc.devRef .tc main_while0b_v52)
    = (addf (F := Ideal) (V (Proc.devRef .tc main_while0b_v51)) (V (Proc.devRef .tc main_v41_0)) : FVec Ideal S32x100000 .f32) := by
  after_reads_simp

theorem v53_arr : after while0Ops0_4 V (Proc.devRef .tc main_while0b_v53)
    = fun j => (Host.argReduce (reducer_argmax_f32_i32 (F := Ideal)) (V (Proc.devRef .tc main_while0b_v52)) (iotaInDim S32x100000 32 1) (constant (F := Ideal) S_ .f32 0xFF800000#32) (constantI S_ 32 0#32)
      reducesTo_S32x100000_S32_d1 h_S_ j).2 := by
  after_reads_simp
  simp -implicitDefEqProofs only [StableHlo.TRef.toBuf, StableHlo.TRef.ofBuf, cast_cast, cast_eq]

/-- The index that taking along a row uses: the token, one row too far if it is below zero. -/
theorem call3_v5_at (r : Fin 32) : after while0Ops0_6 V (Proc.devRef .tc main_while0b_call3_v5) (ix3 r (0 : Fin 1) (0 : Fin 1))
    = Scalar.select (IntOp.cmpi .slt (V (Proc.devRef .tc main_while0b_v54) (ix2 r (0 : Fin 1))) 0#32)
        (IntOp.addi (V (Proc.devRef .tc main_while0b_v54) (ix2 r (0 : Fin 1))) 100000#32) (V (Proc.devRef .tc main_while0b_v54) (ix2 r (0 : Fin 1))) := by
  after_reads_at

theorem toInt_small (w : BitVec 32) (h : w.toNat < 100000) : w.toInt = w.toNat := BitVec.toInt_eq_toNat_of_lt (by omega)

theorem sel_small (w : BitVec 32) (h : w.toNat < 100000) : Scalar.select (IntOp.cmpi .slt w 0#32) (IntOp.addi w 100000#32) w = w := by
  show (if BitVec.ofBool (w.slt 0#32) = 1#1 then w + 100000#32 else w) = w
  rw [if_neg]
  have h0 : ¬ (w.toNat : ℤ) < (0#32).toInt := by
    show ¬ (w.toNat : ℤ) < 0
    omega
  rw [BitVec.slt, toInt_small w h, decide_eq_false h0]
  decide

/-- The softmax at the tokens. -/
theorem v55_at (ht : ∀ r : Fin 32, (V (Proc.devRef .tc main_while0b_v54) (ix2 r (0 : Fin 1)) : BitVec 32).toNat < 100000) (r : Fin 32) :
    after while0Ops0_6 V (Proc.devRef .tc main_while0b_v55) (ix2 r (0 : Fin 1))
      = V (Proc.devRef .tc main_v41_1) (ix2 r (⟨(V (Proc.devRef .tc main_while0b_v54) (ix2 r (0 : Fin 1)) : BitVec 32).toNat, ht r⟩ : Fin 100000)) := by
  have hI : ∀ q : Fin 32, (after while0Ops0_6 V (Proc.devRef .tc main_while0b_call3_v5) (ix3 q (0 : Fin 1) (0 : Fin 1)) : BitVec 32)
      = V (Proc.devRef .tc main_while0b_v54) (ix2 q (0 : Fin 1)) := fun q => by
    refine (call3_v5_at V q).trans ?_
    exact sel_small _ (ht q)
  have e : after while0Ops0_6 V (Proc.devRef .tc main_while0b_v55)
      = select (Host.reduce IntOp.andi (andi
          (cmpi .sge (after while0Ops0_6 V (Proc.devRef .tc main_while0b_call3_v5)) (broadcastInDim S32x1x1 ![] bcast_S_S32x1x1 (constantI S_ 32 0#32)))
          (cmpi .sle (after while0Ops0_6 V (Proc.devRef .tc main_while0b_call3_v5)) (broadcastInDim S32x1x1 ![0, 1, 2] bcast_S1x1x1_S32x1x1_0_1_2
            (broadcastInDim S1x1x1 ![2] bcast_S1_S1x1x1_2 (constantI S1 32 99999#32)))))
          (constantI S_ 1 1#1) reducesTo_S32x1x1_S32x1_d2 h_S_)
        (Host.gather gather_S32x100000_S32x1x1_S32x1_n_1_0_0_1_2_11 (V (Proc.devRef .tc main_v41_1)) (after while0Ops0_6 V (Proc.devRef .tc main_while0b_call3_v5)))
        (broadcastInDim S32x1 ![] bcast_S_S32x1 (constant (F := Ideal) S_ .f32 0x7FC00000#32)) := by
    after_reads_simp
    simp -implicitDefEqProofs only [StableHlo.TRef.toBuf, StableHlo.TRef.ofBuf, cast_cast, cast_eq]
  generalize after while0Ops0_6 V (Proc.devRef .tc main_while0b_call3_v5) = I at hI e
  refine (congrFun e _).trans ?_
  have hm : Host.reduce IntOp.andi (andi (cmpi .sge I (broadcastInDim S32x1x1 ![] bcast_S_S32x1x1 (constantI S_ 32 0#32)))
          (cmpi .sle I (broadcastInDim S32x1x1 ![0, 1, 2] bcast_S1x1x1_S32x1x1_0_1_2 (broadcastInDim S1x1x1 ![2] bcast_S1_S1x1x1_2 (constantI S1 32 99999#32)))))
          (constantI S_ 1 1#1) reducesTo_S32x1x1_S32x1_d2 h_S_ (ix2 r (0 : Fin 1)) = 1#1 := by
    refine Host.reduce_andi_one _ _ _ _ _ rfl fun i => ?_
    let q : Fin 32 := i 0
    have hi : I i = V (Proc.devRef .tc main_while0b_v54) (ix2 q (0 : Fin 1)) := by
      refine Eq.trans (congrArg I ?_) (hI q)
      funext a
      match a with
      | ⟨0, _⟩ => rfl
      | ⟨1, _⟩ => exact Subsingleton.elim (α := Fin 1) _ _
      | ⟨2, _⟩ => exact Subsingleton.elim (α := Fin 1) _ _
    have := ht q
    rw [← hi] at this
    show BitVec.ofBool ((0#32).sle (I i)) &&& BitVec.ofBool ((I i).sle 99999#32) = 1#1
    generalize (I i : BitVec 32) = w at this
    rw [BitVec.sle, BitVec.sle, toInt_small w this]
    have h1 : (w.toNat : ℤ) ≤ 99999 := by omega
    simp [h1]
  show Scalar.select (Host.reduce _ _ _ _ _ _) _ _ = _
  rw [hm]
  refine gather_at _ I r _ ?_
  rw [hI]
  exact toInt_small _ (ht r)

theorem v56_at (r : Fin 32) : after while0Ops0_7 V (Proc.devRef .tc main_while0b_v56) (ix1 r) = V (Proc.devRef .tc main_while0b_v55) (ix2 r (0 : Fin 1)) := by
  after_reads_at

theorem v54_at (r : Fin 32) : after while0Ops0_5 V (Proc.devRef .tc main_while0b_v54) (ix2 r (0 : Fin 1)) = V (Proc.devRef .tc main_while0b_v53) (ix1 r) := by
  after_reads_at

/-- Writing one row of a square array. -/
theorem row_update {α : Type} (x : S32x32.Idx → α) (u : S1x32.Idx → α) (s : Fin 2 → ℤ) (k : Fin 32) (h0 : s 0 = k.val) (h1 : s 1 = 0) (i j : Fin 32) :
    Host.dynamicUpdateSlice x u s updateFits_S32x32_S1x32 (ix2 i j) = if i = k then u (ix2 (0 : Fin 1) j) else x (ix2 i j) := by
  rw [Host.dynamicUpdateSlice_apply]
  have c0 : Host.clampedStart S32x32 S1x32 updateFits_S32x32_S1x32.1 s 0 = k.val :=
    Host.clampedStart_of_le (s := S32x32) (t := S1x32) updateFits_S32x32_S1x32.1 s 0 k.val h0 (by show k.val + 1 ≤ 32; omega)
  have c1 : Host.clampedStart S32x32 S1x32 updateFits_S32x32_S1x32.1 s 1 = 0 :=
    Host.clampedStart_of_le (s := S32x32) (t := S1x32) updateFits_S32x32_S1x32.1 s 1 0 h1 (by decide)
  by_cases h : i = k
  · subst h
    rw [dif_pos, if_pos rfl]
    · refine congrArg u ?_
      funext a
      match a with
      | ⟨0, _⟩ => exact Subsingleton.elim (α := Fin 1) _ _
      | ⟨1, _⟩ => exact Fin.ext (show j.val - Host.clampedStart S32x32 S1x32 updateFits_S32x32_S1x32.1 s 1 = j.val by rw [c1]; rfl)
    · intro a
      match a with
      | ⟨0, _⟩ =>
        show Host.clampedStart S32x32 S1x32 updateFits_S32x32_S1x32.1 s 0 ≤ i.val ∧ i.val < Host.clampedStart S32x32 S1x32 updateFits_S32x32_S1x32.1 s 0 + 1
        rw [c0]; omega
      | ⟨1, _⟩ =>
        show Host.clampedStart S32x32 S1x32 updateFits_S32x32_S1x32.1 s 1 ≤ j.val ∧ j.val < Host.clampedStart S32x32 S1x32 updateFits_S32x32_S1x32.1 s 1 + 32
        rw [c1]; have := j.isLt; omega
  · rw [dif_neg, if_neg h]
    intro hin
    have := hin 0
    have e : Host.clampedStart S32x32 S1x32 updateFits_S32x32_S1x32.1 s 0 ≤ i.val ∧ i.val < Host.clampedStart S32x32 S1x32 updateFits_S32x32_S1x32.1 s 0 + 1 := this
    rw [c0] at e
    exact h (Fin.ext (by omega))

theorem toInt_row (k : Fin 32) : (BitVec.ofNat 32 k.val).toInt = k.val := by
  revert k; decide

theorem v57_at (i j k : Fin 32) (hk : V (Proc.devRef .tc main_v41_2) (Shape.Idx.first h_S_) = BitVec.ofNat 32 k.val) :
    after while0Ops0_8 V (Proc.devRef .tc main_while0b_v57) (ix2 i j)
    = if i = k then V (Proc.devRef .tc main_while0b_v53) (ix1 j) else V (Proc.devRef .tc main_v41_4) (ix2 i j) := by
  after_reads_simp
  simp -implicitDefEqProofs only [StableHlo.TRef.toBuf, StableHlo.TRef.ofBuf, cast_cast, cast_eq]
  refine (row_update _ _ _ k ?_ ?_ i j).trans ?_
  · show BitVec.toInt (V (Proc.devRef .tc main_v41_2) (Shape.Idx.first h_S_)) = _
    rw [hk]; exact toInt_row k
  · rfl
  · refine congrArg (fun w => if i = k then w else _) ?_
    pointwise

theorem v58_at (i j k : Fin 32) (hk : V (Proc.devRef .tc main_v41_2) (Shape.Idx.first h_S_) = BitVec.ofNat 32 k.val) :
    after while0Ops0_9 V (Proc.devRef .tc main_while0b_v58) (ix2 i j)
    = if i = k then V (Proc.devRef .tc main_while0b_v56) (ix1 j) else V (Proc.devRef .tc main_v41_5) (ix2 i j) := by
  after_reads_simp
  simp -implicitDefEqProofs only [StableHlo.TRef.toBuf, StableHlo.TRef.ofBuf, cast_cast, cast_eq]
  refine (row_update _ _ _ k ?_ ?_ i j).trans ?_
  · show BitVec.toInt (V (Proc.devRef .tc main_v41_2) (Shape.Idx.first h_S_)) = _
    rw [hk]; exact toInt_row k
  · rfl
  · refine congrArg (fun w => if i = k then w else _) ?_
    pointwise

/-- What a trip hands on. -/
theorem carry_3 : after while0Ops0_10 V (Proc.devRef .tc main_v41_3) = V (Proc.devRef .tc main_while0b_v48) := by
  after_reads_simp
  rfl
theorem carry_4 : after while0Ops0_10 V (Proc.devRef .tc main_v41_4) = V (Proc.devRef .tc main_while0b_v57) := by
  after_reads_simp
  rfl
theorem carry_5 : after while0Ops0_10 V (Proc.devRef .tc main_v41_5) = V (Proc.devRef .tc main_while0b_v58) := by
  after_reads_simp
  rfl

/-! ## A trip's stretches, one after another -/

abbrev at1 : Valuation τ sig (Elt Ideal) := after while0Ops0 V
abbrev at2 : Valuation τ sig (Elt Ideal) := after while0Ops0_1 (at1 V)
abbrev at3 : Valuation τ sig (Elt Ideal) := after while0Ops0_2 (at2 V)
abbrev at4 : Valuation τ sig (Elt Ideal) := after while0Ops0_3 (at3 V)
abbrev at5 : Valuation τ sig (Elt Ideal) := after while0Ops0_4 (at4 V)
abbrev at6 : Valuation τ sig (Elt Ideal) := after while0Ops0_5 (at5 V)
abbrev at7 : Valuation τ sig (Elt Ideal) := after while0Ops0_6 (at6 V)
abbrev at8 : Valuation τ sig (Elt Ideal) := after while0Ops0_7 (at7 V)
abbrev at9 : Valuation τ sig (Elt Ideal) := after while0Ops0_8 (at8 V)
abbrev at10 : Valuation τ sig (Elt Ideal) := after while0Ops0_9 (at9 V)
abbrev at11 : Valuation τ sig (Elt Ideal) := after while0Ops0_10 (at10 V)

theorem at3_of {b : Ref sig .tc} (h0 : b ∉ while0Ops0_W) (h1 : b ∉ while0Ops0_1_W) (h2 : b ∉ while0Ops0_2_W) : at3 V (Proc.devRef .tc b) = V (Proc.devRef .tc b) := by
  unfold at3 at2 at1
  rw [after_of_writes_sub _ _ while0Ops0_2_writes h2, after_of_writes_sub _ _ while0Ops0_1_writes h1, after_of_writes_sub _ _ while0Ops0_writes h0]

theorem at6_of {b : Ref sig .tc} (h0 : b ∉ while0Ops0_W) (h1 : b ∉ while0Ops0_1_W) (h2 : b ∉ while0Ops0_2_W)
    (h3 : b ∉ while0Ops0_3_W) (h4 : b ∉ while0Ops0_4_W) (h5 : b ∉ while0Ops0_5_W) : at6 V (Proc.devRef .tc b) = V (Proc.devRef .tc b) := by
  unfold at6 at5 at4
  rw [after_of_writes_sub _ _ while0Ops0_5_writes h5, after_of_writes_sub _ _ while0Ops0_4_writes h4, after_of_writes_sub _ _ while0Ops0_3_writes h3]
  exact at3_of V h0 h1 h2

theorem at8_of_at5 {b : Ref sig .tc} (h5 : b ∉ while0Ops0_5_W) (h6 : b ∉ while0Ops0_6_W) (h7 : b ∉ while0Ops0_7_W) :
    at8 V (Proc.devRef .tc b) = at5 V (Proc.devRef .tc b) := by
  unfold at8 at7 at6
  rw [after_of_writes_sub _ _ while0Ops0_7_writes h7, after_of_writes_sub _ _ while0Ops0_6_writes h6, after_of_writes_sub _ _ while0Ops0_5_writes h5]

theorem at8_of {b : Ref sig .tc} (h0 : b ∉ while0Ops0_W) (h1 : b ∉ while0Ops0_1_W) (h2 : b ∉ while0Ops0_2_W)
    (h3 : b ∉ while0Ops0_3_W) (h4 : b ∉ while0Ops0_4_W) (h5 : b ∉ while0Ops0_5_W) (h6 : b ∉ while0Ops0_6_W) (h7 : b ∉ while0Ops0_7_W) :
    at8 V (Proc.devRef .tc b) = V (Proc.devRef .tc b) := by
  unfold at8 at7
  rw [after_of_writes_sub _ _ while0Ops0_7_writes h7, after_of_writes_sub _ _ while0Ops0_6_writes h6]
  exact at6_of V h0 h1 h2 h3 h4 h5

/-- The key that a trip hands on. -/
theorem at11_key : keyIn (at11 V (Proc.devRef .tc main_v41_3)) = split (keyIn (V (Proc.devRef .tc main_v41_3))) 0 := by
  have e : at11 V (Proc.devRef .tc main_v41_3) = at2 V (Proc.devRef .tc main_while0b_v48) := by
    unfold at11 at10 at9
    rw [carry_3, after_of_writes_sub _ _ while0Ops0_9_writes (by decide), after_of_writes_sub _ _ while0Ops0_8_writes (by decide)]
    rw [at8_of_at5 V (by decide) (by decide) (by decide)]
    unfold at5 at4 at3
    rw [after_of_writes_sub _ _ while0Ops0_4_writes (by decide),
      after_of_writes_sub _ _ while0Ops0_3_writes (by decide), after_of_writes_sub _ _ while0Ops0_2_writes (by decide)]
  rw [e]
  unfold keyIn at2 at1
  rw [v48_read, v48_read, v46_at, v46_at]
  rfl

/-- The noisy logits of a trip. -/
theorem at4_score (x : S32x8x100000.Idx → EReal) (k : Fin 32) (h3 : keyIn (V (Proc.devRef .tc main_v41_3)) = chain k.val)
    (hx : ∀ (r : Fin 32) (c : Fin 100000), V (Proc.devRef .tc main_v41_0) (ix2 r c) = Cert.KernelIdeal.Body.logitOf x r c.val) (r : Fin 32) :
    rowOf (at4 V (Proc.devRef .tc main_while0b_v52)) r = score (Cert.KernelIdeal.Body.logitOf x r) (Cert.KernelIdeal.Body.keyTab k) r.val := by
  funext n
  unfold rowOf score at4
  by_cases h : n < 100000
  · rw [dif_pos h, if_pos h, v52_arr]
    have hA : at3 V (Proc.devRef .tc main_while0b_v51) (ix2 r (⟨n, h⟩ : Fin 100000))
        = noiseS (bitsS (Cert.KernelIdeal.Body.keyTab k).1 (Cert.KernelIdeal.Body.keyTab k).2 (BitVec.ofNat 32 (r.val * 100000 + n))) := by
      refine (gumbel_read (at2 V) (ix2 r ⟨n, h⟩)).trans ?_
      unfold at2 at1
      rw [flat_words, v50_read, v50_read, v46_at, v46_at, h3, ← chain_keys k]
      rfl
    have hB : at3 V (Proc.devRef .tc main_v41_0) (ix2 r (⟨n, h⟩ : Fin 100000)) = Cert.KernelIdeal.Body.logitOf x r n := by
      rw [at3_of V (by decide) (by decide) (by decide), hx]
    exact (congrArg₂ (fun a b : EReal => a + b) hA hB).trans (add_comm _ _)
  · rw [dif_neg h, if_neg h]

/-- A trip's tokens. -/
theorem at5_token (x : S32x8x100000.Idx → EReal) (k : Fin 32) (h3 : keyIn (V (Proc.devRef .tc main_v41_3)) = chain k.val)
    (hx : ∀ (r : Fin 32) (c : Fin 100000), V (Proc.devRef .tc main_v41_0) (ix2 r c) = Cert.KernelIdeal.Body.logitOf x r c.val) (r : Fin 32) :
    IsTok 100000 (score (Cert.KernelIdeal.Body.logitOf x r) (Cert.KernelIdeal.Body.keyTab k) r.val) (at5 V (Proc.devRef .tc main_while0b_v53) (ix1 r)) := by
  unfold at5
  rw [← at4_score V x k h3 hx r, v53_arr]
  exact argmax_at _ r

/-- A trip's tokens go into its row. -/
theorem at11_tokens (k : Fin 32) (h2 : V (Proc.devRef .tc main_v41_2) (Shape.Idx.first h_S_) = BitVec.ofNat 32 k.val) (i r : Fin 32) :
    at11 V (Proc.devRef .tc main_v41_4) (ix2 i r) = if i = k then at5 V (Proc.devRef .tc main_while0b_v53) (ix1 r) else V (Proc.devRef .tc main_v41_4) (ix2 i r) := by
  unfold at11 at10 at9
  rw [carry_4, after_of_writes_sub _ _ while0Ops0_9_writes (by decide)]
  rw [v57_at (at8 V) i r k (by rw [at8_of V (by decide) (by decide) (by decide) (by decide) (by decide) (by decide) (by decide) (by decide)]; exact h2)]
  rw [at8_of_at5 V (by decide) (by decide) (by decide), at8_of V (by decide) (by decide) (by decide) (by decide) (by decide) (by decide) (by decide) (by decide)]

/-- And their probabilities. -/
theorem at11_probs (k : Fin 32) (h2 : V (Proc.devRef .tc main_v41_2) (Shape.Idx.first h_S_) = BitVec.ofNat 32 k.val)
    (ht : ∀ r : Fin 32, (at5 V (Proc.devRef .tc main_while0b_v53) (ix1 r) : BitVec 32).toNat < 100000) (i r : Fin 32) :
    at11 V (Proc.devRef .tc main_v41_5) (ix2 i r) = if i = k then V (Proc.devRef .tc main_v41_1) (ix2 r (⟨(at5 V (Proc.devRef .tc main_while0b_v53) (ix1 r) : BitVec 32).toNat, ht r⟩ : Fin 100000))
      else V (Proc.devRef .tc main_v41_5) (ix2 i r) := by
  unfold at11 at10
  rw [carry_5]
  rw [v58_at (at9 V) i r k (by
    unfold at9
    rw [after_of_writes_sub _ _ while0Ops0_8_writes (by decide), at8_of V (by decide) (by decide) (by decide) (by decide) (by decide) (by decide) (by decide) (by decide)]; exact h2)]
  unfold at9
  rw [after_of_writes_sub _ _ while0Ops0_8_writes (by decide), after_of_writes_sub _ _ while0Ops0_8_writes (by decide)]
  rw [at8_of V (b := main_v41_5) (by decide) (by decide) (by decide) (by decide) (by decide) (by decide) (by decide) (by decide)]
  unfold at8
  rw [v56_at]
  refine congrArg (fun w => if i = k then w else _) ?_
  have hv : ∀ r : Fin 32, at6 V (Proc.devRef .tc main_while0b_v54) (ix2 r (0 : Fin 1)) = at5 V (Proc.devRef .tc main_while0b_v53) (ix1 r) := fun r => v54_at (at5 V) r
  refine (v55_at (at6 V) (fun r => by rw [hv]; exact ht r) r).trans ?_
  rw [at6_of V (by decide) (by decide) (by decide) (by decide) (by decide) (by decide)]
  simp only [hv]

end Cert.ReferenceIdeal.Value
-- ==== Proof.RefEntry.lean ====
module

public import proofs.«01_k».proof.Proof.RefArg
public import proofs.«01_k».proof.Proof.Result

@[expose] public section

set_option maxRecDepth 16384

noncomputable section

namespace Cert.ReferenceIdeal.Value

open Cert.ReferenceIdeal Cert.ReferenceIdeal.Gen Cert.Sampler
open Idealize.ShloMosaic Idealize.ShloMosaic.TcCoe Idealize.ShloMosaic.StableHlo Idealize.ShloMosaic.Tactic
open Idealize.SL Idealize.SL.Sem

open Cert.KernelIdeal.Body (logitOf prob)

theorem div_one (a : EReal) : Ideal.div a 1 = a := by
  unfold Ideal.div
  simp

theorem logitOf_at (x : S32x8x100000.Idx → EReal) (r : Fin 32) (c : Fin 100000) : x (ix3 r (7 : Fin 8) c) = logitOf x r c.val := by
  unfold logitOf
  rw [dif_pos c.isLt]

theorem v20_at (V : Valuation τ sig (Elt Ideal)) (r : Fin 32) (c : Fin 100000) : after hostOps0 V (Proc.devRef .tc main_v20) (ix2 r c)
    = logitOf (V (Proc.devRef .tc main_arg1)) r c.val := by
  after_reads_at
  rw [div_one]
  exact logitOf_at _ r c

theorem fold_max_bot {n : ℕ} (l : Fin n → EReal) :
    (∀ c, l c ≤ Finset.univ.fold max ⊥ l) ∧ (Finset.univ.fold max ⊥ l = ⊥ ∨ ∃ c, Finset.univ.fold max ⊥ l = l c) := by
  have e : Finset.univ.fold max ⊥ l = Finset.univ.sup l := rfl
  rw [e]
  refine ⟨fun c => Finset.le_sup (Finset.mem_univ c), ?_⟩
  by_cases h : (Finset.univ : Finset (Fin n)).Nonempty
  · obtain ⟨c, _, hc⟩ := Finset.exists_mem_eq_sup _ h l
    exact .inr ⟨c, hc⟩
  · rw [Finset.not_nonempty_iff_eq_empty.mp h]
    exact .inl rfl

/-- The softmax as the reference spells it is the quotient of exponentials. -/
theorem softmax_read {n : ℕ} (l : Fin n → EReal) (hl : ∀ c, l c < ⊤) (t : Fin n) :
    Ideal.div (Ideal.exp (l t - max (Ideal.ofBits .f32 0xFF800000#32) (Finset.univ.fold max (Ideal.ofBits .f32 0xFF800000#32) l)))
      (∑ x, Ideal.exp (l x - max (Ideal.ofBits .f32 0xFF800000#32) (Finset.univ.fold max (Ideal.ofBits .f32 0xFF800000#32) l)))
    = Ideal.div (Ideal.exp (l t)) (∑ x, Ideal.exp (l x)) := by
  obtain ⟨hM, hA⟩ := fold_max_bot l
  rw [bot_eq]
  simp only [bot_le, max_eq_right]
  exact softmax_shift l hl _ hM hA t

theorem prob_eq (l : ℕ → EReal) (f : Fin 100000 → EReal) (hf : ∀ c, f c = l c.val) (i : BitVec 32) (h : i.toNat < 100000) :
    Ideal.div (Ideal.exp (f ⟨i.toNat, h⟩)) (∑ x, Ideal.exp (f x)) = prob l i := by
  unfold prob
  rw [hf]
  refine congrArg _ (Eq.trans ?_ (Finset.sum_range fun x => Ideal.exp (l x)).symm)
  exact Finset.sum_congr rfl fun x _ => by rw [hf]

/-- The softmax of an array's rows, operation by operation. -/
def softArr {n : ℕ} (hR : (⟨2, ![32, n]⟩ : Shape).ReducesTo [1] S32) (hB : S32x1.BroadcastsInDim ⟨2, ![32, n]⟩ (![0, 1] : Fin 2 → Fin 2))
    (x : FVec Ideal ⟨2, ![32, n]⟩ .f32) : FVec Ideal ⟨2, ![32, n]⟩ .f32 :=
  Host.divf (Host.exp (subf x (broadcastInDim ⟨2, ![32, n]⟩ ![0, 1] hB (broadcastInDim S32x1 ![0] bcast_S32_S32x1_0
    (maximumf (broadcastInDim S32 ![] bcast_S_S32 (constant (F := Ideal) S_ .f32 0xFF800000#32))
      (Host.reduce FloatOps.maximumf x (constant (F := Ideal) S_ .f32 0xFF800000#32) hR h_S_))))))
    (broadcastInDim ⟨2, ![32, n]⟩ ![0, 1] hB (broadcastInDim S32x1 ![0] bcast_S32_S32x1_0
      (Host.reduceAdd (Host.exp (subf x (broadcastInDim ⟨2, ![32, n]⟩ ![0, 1] hB (broadcastInDim S32x1 ![0] bcast_S32_S32x1_0
        (maximumf (broadcastInDim S32 ![] bcast_S_S32 (constant (F := Ideal) S_ .f32 0xFF800000#32))
          (Host.reduce FloatOps.maximumf x (constant (F := Ideal) S_ .f32 0xFF800000#32) hR h_S_)))))) (constant (F := Ideal) S_ .f32 0x00000000#32) hR h_S_)))

theorem softArr_at {n : ℕ} (hR : (⟨2, ![32, n]⟩ : Shape).ReducesTo [1] S32) (hB : S32x1.BroadcastsInDim ⟨2, ![32, n]⟩ (![0, 1] : Fin 2 → Fin 2))
    (x : FVec Ideal ⟨2, ![32, n]⟩ .f32) (l : Fin n → EReal) (r : Fin 32) (hx : ∀ c, x (ix2 r c) = l c) (hl : ∀ c, l c < ⊤) (t : Fin n) :
    softArr hR hB x (ix2 r t) = Ideal.div (Ideal.exp (l t)) (∑ c, Ideal.exp (l c)) := by
  refine Eq.trans ?_ (softmax_read l hl t)
  unfold softArr
  pointwise
  simp only [hx]

theorem v31_arr (V : Valuation τ sig (Elt Ideal)) : after hostOps0 V (Proc.devRef .tc main_v31)
    = softArr reducesTo_S32x100000_S32_d1 bcast_S32x1_S32x100000_0_1 (after hostOps0 V (Proc.devRef .tc main_v20)) := by
  after_reads_simp
  generalize Host.divf (F := Ideal) (φ := .f32) _ (broadcastInDim S32x100000 ![] bcast_S_S32x100000 (constant (F := Ideal) S_ .f32 1065353216#32)) = x
  unfold softArr
  rfl

theorem v31_at (V : Valuation τ sig (Elt Ideal)) (hl : ∀ r n, logitOf (V (Proc.devRef .tc main_arg1)) r n < ⊤) (r : Fin 32) (i : BitVec 32) (h : i.toNat < 100000) :
    after hostOps0 V (Proc.devRef .tc main_v31) (ix2 r (⟨i.toNat, h⟩ : Fin 100000)) = prob (logitOf (V (Proc.devRef .tc main_arg1)) r) i := by
  rw [v31_arr]
  refine (softArr_at _ _ _ (fun c : Fin 100000 => logitOf (V (Proc.devRef .tc main_arg1)) r c.val) r (fun c => v20_at V r c) (fun c => hl r _) _).trans ?_
  exact prob_eq _ (fun c : Fin 100000 => logitOf (V (Proc.devRef .tc main_arg1)) r c.val) (fun _ => rfl) i h

theorem key0_at (V : Valuation τ sig (Elt Ideal)) (j : Fin 2) : after hostOps0 V (Proc.devRef .tc main_v41_3) (ix1 j)
    = if j.val < 1 then 0#32 else 42#32 := by
  after_reads_at
  show concatenate S2 0 [⟨S1, _⟩, ⟨S1, _⟩] concatenates_S1_S1_S2_d0 (ix1 j) = _
  rw [concatenate_pair_apply]
  split
  · rename_i h
    refine Eq.trans ?_ (if_pos (show j.val < 1 from h)).symm
    after_reads_at
    rfl
  · rename_i h
    refine Eq.trans ?_ (if_neg (show ¬ j.val < 1 from h)).symm
    after_reads_at
    rfl

theorem carry0_at (V : Valuation τ sig (Elt Ideal)) : after hostOps0 V (Proc.devRef .tc main_v41_0) = after hostOps0 V (Proc.devRef .tc main_v20) := by
  after_reads_simp
  rfl
theorem carry1_at (V : Valuation τ sig (Elt Ideal)) : after hostOps0 V (Proc.devRef .tc main_v41_1) = after hostOps0 V (Proc.devRef .tc main_v31) := by
  after_reads_simp
  rfl

end Cert.ReferenceIdeal.Value
-- ==== Proof.RefValue.lean ====
module

public import proofs.«01_k».proof.Proof.RefTrip
public import proofs.«01_k».proof.Proof.RefEntry

@[expose] public section

set_option maxRecDepth 16384

noncomputable section

namespace Cert.ReferenceIdeal.Value

open Cert.ReferenceIdeal Cert.ReferenceIdeal.Gen Cert.Sampler
open Idealize.ShloMosaic Idealize.ShloMosaic.TcCoe Idealize.ShloMosaic.StableHlo Idealize.ShloMosaic.Tactic
open Idealize.SL Idealize.SL.Sem

open Cert.KernelIdeal.Body (score logitOf keyTab prob Results)

variable (m : (ℓ : Loc nD τ sig) → Buf (Elt Ideal) ℓ)

/-- The logits of a launch. -/
abbrev logits (c : Dev nD) : S32x8x100000.Idx → EReal := m ((c.tc : Thread nD τ).loc main_arg1)

theorem entry_logits (c : Dev nD) (r : Fin 32) (n : Fin 100000) : entryContents preI m c (Proc.devRef .tc main_v41_0) (ix2 r n) = logitOf (logits m c) r n.val := by
  simp only [entryContents, afterL_cons, afterL_nil]
  exact (congrFun (carry0_at _) _).trans (v20_at _ r n)

theorem entry_probs (c : Dev nD) (hl : ∀ r n, logitOf (logits m c) r n < ⊤) (r : Fin 32) (i : BitVec 32) (h : i.toNat < 100000) :
    entryContents preI m c (Proc.devRef .tc main_v41_1) (ix2 r (⟨i.toNat, h⟩ : Fin 100000)) = prob (logitOf (logits m c) r) i := by
  simp only [entryContents, afterL_cons, afterL_nil]
  exact (congrFun (carry1_at _) _).trans (v31_at _ hl r i h)

theorem entry_key (c : Dev nD) : keyIn (entryContents preI m c (Proc.devRef .tc main_v41_3)) = chain 0 := by
  simp only [entryContents, afterL_cons, afterL_nil]
  unfold keyIn
  rw [key0_at, key0_at]
  rfl

/-- A trip's row of the two tables. -/
def RowDone (c : Dev nD) (V : Valuation τ sig (Elt Ideal)) (i : Fin 32) : Prop :=
  ∀ r : Fin 32, IsTok 100000 (score (logitOf (logits m c) r) (keyTab i) r.val) (V (Proc.devRef .tc main_v41_4) (ix2 i r))
    ∧ V (Proc.devRef .tc main_v41_5) (ix2 i r) = prob (logitOf (logits m c) r) (V (Proc.devRef .tc main_v41_4) (ix2 i r))

/-- After `k` trips the key is the `k`-th and the rows below `k` are done. -/
theorem atK_done (c : Dev nD) (hl : ∀ r n, logitOf (logits m c) r n < ⊤) : ∀ k : ℕ, k ≤ 32 →
    keyIn (atK m k c (Proc.devRef .tc main_v41_3)) = chain k ∧ ∀ i : Fin 32, i.val < k → RowDone m c (atK m k c) i
  | 0, _ => ⟨entry_key m c, fun i h => absurd h (Nat.not_lt_zero _)⟩
  | k + 1, hk => by
    obtain ⟨h3, hd⟩ := atK_done c hl k (by omega)
    let q : Fin 32 := ⟨k, by omega⟩
    have hstep : atK m (k + 1) c = at11 (after condOps (atK m k c)) := by
      show afterL bodyI (after condOps (atK m k c)) = _
      simp only [afterL_cons, afterL_nil]
    have e : ∀ b : Ref sig .tc, b ∉ condOps_W → after condOps (atK m k c) (Proc.devRef .tc b) = atK m k c (Proc.devRef .tc b) :=
      fun b hb => after_of_writes_sub _ _ condOps_writes hb
    have e0 := e main_v41_0 (by decide)
    have e1 := e main_v41_1 (by decide)
    have e2 := e main_v41_2 (by decide)
    have e3 := e main_v41_3 (by decide)
    have e4 := e main_v41_4 (by decide)
    have e5 := e main_v41_5 (by decide)
    rw [hstep]
    generalize after condOps (atK m k c) = W at e0 e1 e2 e3 e4 e5
    have h2 : W (Proc.devRef .tc main_v41_2) (Shape.Idx.first h_S_) = BitVec.ofNat 32 q.val := by
      rw [e2, atK_ctr]
      exact (by decide : ∀ q : Fin 32, Scf.iv 0#32 1#32 q.val = BitVec.ofNat 32 q.val) q
    have h3' : keyIn (W (Proc.devRef .tc main_v41_3)) = chain q.val := by rw [e3]; exact h3
    have hx : ∀ (r : Fin 32) (n : Fin 100000), W (Proc.devRef .tc main_v41_0) (ix2 r n) = logitOf (logits m c) r n.val := fun r n => by
      rw [e0, atK_untouched m main_v41_0 (by decide +kernel)]
      exact entry_logits m c r n
    have ht := fun r => at5_token W (logits m c) q h3' hx r
    refine ⟨?_, fun i hi r => ?_⟩
    · rw [at11_key, h3']; rfl
    · have htok := at11_tokens W q h2 i r
      have hprob := at11_probs W q h2 (fun r => (ht r).1) i r
      by_cases hq : i = q
      · subst hq
        rw [if_pos rfl] at htok hprob
        rw [htok]
        refine ⟨ht r, hprob.trans ?_⟩
        rw [e1, atK_untouched m main_v41_1 (by decide +kernel)]
        exact entry_probs m c hl r _ _
      · rw [if_neg hq] at htok hprob
        rw [htok, hprob, e4, e5]
        exact hd i (by have : i.val ≠ k := fun h => hq (Fin.ext h); omega) r

/-- The tokens that the reference returns. -/
def refTok (c : Dev nD) : S32x4x8.Idx → BitVec 32 := finalContents condOps preI bodyI postI 32 m c (Proc.devRef .tc main_v43)
/-- And their probabilities. -/
def refProb (c : Dev nD) : S32x4x8.Idx → EReal := finalContents condOps preI bodyI postI 32 m c (Proc.devRef .tc main_v45)

theorem v43_at (V : Valuation τ sig (Elt Ideal)) (r : Fin 32) (a : Fin 4) (b : Fin 8) :
    after hostOps0_1 V (Proc.devRef .tc main_v43) (ix3 r a b) = V (Proc.devRef .tc main_v41_4) (ix2 (⟨a.val * 8 + b.val, by omega⟩ : Fin 32) r) := by
  after_reads_at

theorem v45_at (V : Valuation τ sig (Elt Ideal)) (r : Fin 32) (a : Fin 4) (b : Fin 8) :
    after hostOps0_1 V (Proc.devRef .tc main_v45) (ix3 r a b) = V (Proc.devRef .tc main_v41_5) (ix2 (⟨a.val * 8 + b.val, by omega⟩ : Fin 32) r) := by
  after_reads_at

theorem ref_results (c : Dev nD) (hl : ∀ r n, logitOf (logits m c) r n < ⊤) : Results (logits m c) (refTok m c) (refProb m c) := fun r a b => by
  have h := (atK_done m c hl 32 le_rfl).2 ⟨a.val * 8 + b.val, by omega⟩ (by show a.val * 8 + b.val < 32; omega) r
  unfold refTok refProb finalContents
  simp only [afterL_cons, afterL_nil]
  rw [v43_at, v45_at, after_of_writes_sub _ _ condOps_writes (by decide), after_of_writes_sub _ _ condOps_writes (by decide)]
  exact h

/-- The reference's program ends with these results and its arguments as launched. -/
theorem ref_run (ρ : Dev nD → PrngReg) : θ_run defs (onTc (τ := τ) (main (F := Ideal))) ⟨m, fun _ => 0, ρ⟩ (fun r => ∀ c : Dev nD,
      r.2.mem ((c.tc : Thread nD τ).loc main_v43) = refTok m c
      ∧ r.2.mem ((c.tc : Thread nD τ).loc main_v45) = refProb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c main_v43 rfl, h c main_v45 rfl, args_end m h c⟩) (run_fold m ρ)

end Cert.ReferenceIdeal.Value
-- ==== Proof.Input.lean ====
module

public import proofs.«01_k».proof.Defs
public import proofs.«01_k».proof.Proof.RefValue
public import Idealize.ShloMosaic.Lib.ReduceAll

@[expose] public section

set_option maxRecDepth 16384

noncomputable section

namespace Cert.Pre_logits_below_infinity

open Idealize.ShloMosaic Idealize.ShloMosaic.Tactic
open Cert.KernelIdeal.Body (logitOf)
open Cert.Sampler (top_eq)

/-- The conditions that the precondition's operations take. -/
instance conditions : Facts where
  slices_S32x8x100000_S32x1x100000_0_7_0 := Cert.ReferenceIdeal.Gen.slices_S32x8x100000_S32x1x100000_0_7_0
  shapeCasts_S32x1x100000_S32x100000 := Cert.ReferenceIdeal.Gen.shapeCasts_S32x1x100000_S32x100000
  bcast_S_S32x100000 := Cert.ReferenceIdeal.Gen.bcast_S_S32x100000
  reducesTo_S32x100000_S_d0_1 := by decide
  h_S_ := Cert.ReferenceIdeal.Gen.h_S_

/-- The logits that the precondition compares. -/
theorem last_at (x : FVec Ideal S32x8x100000 .f32) (r : Fin 32) (n : Fin 100000) :
    shapeCast S32x100000 (extractStridedSlice S32x1x100000 ![0, 7, 0] x Facts.slices_S32x8x100000_S32x1x100000_0_7_0) Facts.shapeCasts_S32x1x100000_S32x100000 (ix2 r n)
      = x (ix3 r (7 : Fin 8) n) := by
  pointwise

/-- Under the precondition no logit is positive infinity. -/
theorem below (x0 : FVec Ideal S32x8x1024 .f32) (x : FVec Ideal S32x8x100000 .f32) (x2 : FVec Ideal S1024x4 .f32) (x3 : FVec Ideal S4 .f32)
    (h : fn (F := Ideal) x0 x x2 x3 = fun _ => 1#1) (r : Fin 32) (n : ℕ) : logitOf x r n < ⊤ := by
  unfold logitOf
  split
  · rename_i hn
    have : Subsingleton S_.Idx := ⟨fun a b => funext fun k => k.elim0⟩
    unfold fn at h
    have e := Host.reduce_andi_all _ _ Facts.reducesTo_S32x100000_S_d0_1 Facts.h_S_ ix0 (congrFun h ix0) (ix2 r ⟨n, hn⟩)
    have e' : BitVec.ofBool (decide (shapeCast S32x100000 (extractStridedSlice S32x1x100000 ![0, 7, 0] x Facts.slices_S32x8x100000_S32x1x100000_0_7_0)
        Facts.shapeCasts_S32x1x100000_S32x100000 (ix2 r ⟨n, hn⟩) < Ideal.ofBits .f32 0x7F800000#32)) = 1#1 := e
    rw [last_at, top_eq] at e'
    by_contra hc
    rw [decide_eq_false hc] at e'
    exact absurd e' (by decide)
  · exact bot_lt_top

end Cert.Pre_logits_below_infinity
-- ==== Proof.lean ====
/- The assembly of the claims: the three frames, the passage to the extended reals, and the equality of the results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Data
public import proofs.«01_k».proof.Proof.Word
public import proofs.«01_k».proof.Proof.RefFrame
public import proofs.«01_k».proof.Proof.Result
public import proofs.«01_k».proof.Proof.RefValue
public import proofs.«01_k».proof.Proof.Input
public import Idealize.ShloMosaic.Adequacy
public import Idealize.ShloMosaic.Init

@[expose] public section

noncomputable section

namespace Cert.Proof

open Idealize.ShloMosaic Idealize.SL.Sem Cert.Kernel

/-- From the same arguments, no logit being positive infinity, both programs end with the same tokens and the same probabilities. -/
theorem same_results : Cert.algebraic_KernelIdeal_ReferenceIdeal_pre_logits_below_infinity (hKernelIdeal := Cert.KernelIdeal.Gen.facts)
    (hReferenceIdeal := Cert.ReferenceIdeal.Gen.facts) (hPre_logits_below_infinity := Cert.Pre_logits_below_infinity.conditions) := fun m g m' g' hp ha => by
  have hl := fun (c : Dev Cert.KernelIdeal.nD) => Cert.Pre_logits_below_infinity.below _ _ _ _ (hp c)
  have hk := Cert.KernelIdeal.Body.kernel_results m hl
  have hr : ∀ c : Dev Cert.KernelIdeal.nD, Cert.KernelIdeal.Body.Results (m ((c.tc : Thread Cert.KernelIdeal.nD Cert.KernelIdeal.τ).loc Cert.KernelIdeal.main_arg1))
      (Cert.ReferenceIdeal.Value.refTok m' c) (Cert.ReferenceIdeal.Value.refProb m' c) := fun c => by
    have e := (ha c).2.1
    have h := Cert.ReferenceIdeal.Value.ref_results m' c
    unfold Cert.ReferenceIdeal.Value.logits at h
    rw [e] at h
    exact h (hl c)
  refine ⟨Cert.KernelIdeal.Body.tokOut m, Cert.KernelIdeal.Body.probOut m, Cert.KernelIdeal.Body.kernel_run m g, ?_⟩
  refine (θ_run _ _ _).mono (fun r h c => ?_) (Cert.ReferenceIdeal.Value.ref_run m' g')
  obtain ⟨h0, h1, hargs⟩ := h c
  obtain ⟨e0, e1⟩ := (hr c).unique (hk c)
  exact ⟨h0.trans e0, h1.trans e1, hargs⟩

/-- Everything the certificate states. -/
theorem claim : Cert.Claim := ⟨Cert.Kernel.Gen.facts, Cert.KernelIdeal.Gen.facts, Cert.ReferenceIdeal.Gen.facts, Cert.Pre_logits_below_infinity.conditions,
  fun m g _ => Cert.Kernel.Body.frame m g, fun m g _ => Cert.KernelIdeal.Body.frame m g, fun m g _ => Cert.KernelIdeal.Body.frame m g,
  fun m g _ => Cert.ReferenceIdeal.Value.frame m g, fun m g _ => Cert.ReferenceIdeal.Value.frame m g,
  IdealRules.named_const.statement _ _ _ _ _ rfl, same_results⟩

end Cert.Proof

end
